-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![768, 1536]⟩ ⟨2, ![768, 24576]⟩ 1 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![768, 1536]⟩ ⟨2, ![768, 24576]⟩ 1 16 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![1536, 768]⟩ ⟨2, ![24576, 768]⟩ 0 16 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S768x768 : Shape := ⟨2, ![768, 768]⟩
abbrev S768x1536 : Shape := ⟨2, ![768, 1536]⟩
abbrev S1536x768 : Shape := ⟨2, ![1536, 768]⟩
abbrev S15x48x768 : Shape := ⟨3, ![15, 48, 768]⟩
abbrev S15 : Shape := ⟨1, ![15]⟩
abbrev S_ : Shape := ⟨0, ![]⟩
abbrev S192x768 : Shape := ⟨2, ![192, 768]⟩
abbrev S192x1536 : Shape := ⟨2, ![192, 1536]⟩
abbrev S1 : Shape := ⟨1, ![1]⟩
abbrev S1x48x768 : Shape := ⟨3, ![1, 48, 768]⟩
abbrev S48x768 : Shape := ⟨2, ![48, 768]⟩

abbrev nBuf : Space → Nat
  | .hbm => 5
  | .vmem => 8
  | .smem => 0
  | _ => 0

abbrev bufTy : (tb : Table) → Fin (tcTables nBuf tb) → BufTy
  | .hbm, ⟨0, _⟩ => ⟨S768x768, .bf16⟩
  | .hbm, ⟨1, _⟩ => ⟨S768x1536, .bf16⟩
  | .hbm, ⟨2, _⟩ => ⟨S768x1536, .bf16⟩
  | .hbm, ⟨3, _⟩ => ⟨S1536x768, .bf16⟩
  | .hbm, ⟨4, _⟩ => ⟨S768x768, .f32⟩
  | .local _ .vmem, ⟨0, _⟩ => ⟨S768x768, .bf16⟩
  | .local _ .vmem, ⟨1, _⟩ => ⟨S768x1536, .bf16⟩
  | .local _ .vmem, ⟨2, _⟩ => ⟨S768x1536, .bf16⟩
  | .local _ .vmem, ⟨3, _⟩ => ⟨S1536x768, .bf16⟩
  | .local _ .vmem, ⟨4, _⟩ => ⟨S768x768, .f32⟩
  | .local _ .vmem, ⟨5, _⟩ => ⟨S768x768, .bf16⟩
  | .local _ .vmem, ⟨6, _⟩ => ⟨S15x48x768, .bf16⟩
  | .local _ .vmem, ⟨7, _⟩ => ⟨S768x768, .bf16⟩
  | _, _ => ⟨S768x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 65 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | _ => false

abbrev sig : RefSig :=
  (ofTc nBuf bufTy 1 65 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.addi v2 c1_i32_0
  let c16_i32_1 : BitVec 32 := 16#32
  let c0_i32 : BitVec 32 := 0#32
  let v5 : BitVec 1 := Scalar.cmpi .eq c16_i32_1 c0_i32
  let c1_i32_2 : BitVec 32 := 1#32
  let v6 : BitVec 32 := Scalar.select v5 c1_i32_2 c16_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v17 : BitVec 32 := Scalar.addi v2 c2_i32
  let c16_i32_9 : BitVec 32 := 16#32
  let c0_i32_10 : BitVec 32 := 0#32
  let v18 : BitVec 1 := Scalar.cmpi .eq c16_i32_9 c0_i32_10
  let c1_i32_11 : BitVec 32 := 1#32
  let v19 : BitVec 32 := Scalar.select v18 c1_i32_11 c16_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v30 : BitVec 32 := Scalar.addi v2 c3_i32
  let c16_i32_18 : BitVec 32 := 16#32
  let c0_i32_19 : BitVec 32 := 0#32
  let v31 : BitVec 1 := Scalar.cmpi .eq c16_i32_18 c0_i32_19
  let c1_i32_20 : BitVec 32 := 1#32
  let v32 : BitVec 32 := Scalar.select v31 c1_i32_20 c16_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v43 : BitVec 32 := Scalar.addi v2 c4_i32
  let c16_i32_27 : BitVec 32 := 16#32
  let c0_i32_28 : BitVec 32 := 0#32
  let v44 : BitVec 1 := Scalar.cmpi .eq c16_i32_27 c0_i32_28
  let c1_i32_29 : BitVec 32 := 1#32
  let v45 : BitVec 32 := Scalar.select v44 c1_i32_29 c16_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v56 : BitVec 32 := Scalar.addi v2 c5_i32
  let c16_i32_36 : BitVec 32 := 16#32
  let c0_i32_37 : BitVec 32 := 0#32
  let v57 : BitVec 1 := Scalar.cmpi .eq c16_i32_36 c0_i32_37
  let c1_i32_38 : BitVec 32 := 1#32
  let v58 : BitVec 32 := Scalar.select v57 c1_i32_38 c16_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v69 : BitVec 32 := Scalar.addi v2 c6_i32
  let c16_i32_45 : BitVec 32 := 16#32
  let c0_i32_46 : BitVec 32 := 0#32
  let v70 : BitVec 1 := Scalar.cmpi .eq c16_i32_45 c0_i32_46
  let c1_i32_47 : BitVec 32 := 1#32
  let v71 : BitVec 32 := Scalar.select v70 c1_i32_47 c16_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v82 : BitVec 32 := Scalar.addi v2 c7_i32
  let c16_i32_54 : BitVec 32 := 16#32
  let c0_i32_55 : BitVec 32 := 0#32
  let v83 : BitVec 1 := Scalar.cmpi .eq c16_i32_54 c0_i32_55
  let c1_i32_56 : BitVec 32 := 1#32
  let v84 : BitVec 32 := Scalar.select v83 c1_i32_56 c16_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_dev8 (d0 : Dev nD) : Nat :=
  let c0_i32_71 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v95 : BitVec 32 := Scalar.addi v2 c8_i32
  let c16_i32_63 : BitVec 32 := 16#32
  let c0_i32_64 : BitVec 32 := 0#32
  let v96 : BitVec 1 := Scalar.cmpi .eq c16_i32_63 c0_i32_64
  let c1_i32_65 : BitVec 32 := 1#32
  let v97 : BitVec 32 := Scalar.select v96 c1_i32_65 c16_i32_63
  let v98 : BitVec 32 := Scalar.remsi v95 v97
  let c0_i32_67 : BitVec 32 := 0#32
  let v100 : BitVec 1 := Scalar.cmpi .slt v98 c0_i32_67
  let c0_i32_68 : BitVec 32 := 0#32
  let v101 : BitVec 1 := Scalar.cmpi .slt v97 c0_i32_68
  let v102 : BitVec 1 := Scalar.xori v100 v101
  let c0_i32_66 : BitVec 32 := 0#32
  let v99 : BitVec 1 := Scalar.cmpi .ne v98 c0_i32_66
  let v103 : BitVec 1 := Scalar.andi v102 v99
  let v104 : BitVec 32 := Scalar.addi v98 v97
  let v105 : BitVec 32 := Scalar.select v103 v104 v98
  let c1_i32_70 : BitVec 32 := 1#32
  let v106 : BitVec 32 := Scalar.muli v105 c1_i32_70
  let v107 : BitVec 32 := Scalar.addi c0_i32_71 v106
  v107.toNat
def k0_dev9 (d0 : Dev nD) : Nat :=
  let c0_i32_80 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v108 : BitVec 32 := Scalar.addi v2 c9_i32
  let c16_i32_72 : BitVec 32 := 16#32
  let c0_i32_73 : BitVec 32 := 0#32
  let v109 : BitVec 1 := Scalar.cmpi .eq c16_i32_72 c0_i32_73
  let c1_i32_74 : BitVec 32 := 1#32
  let v110 : BitVec 32 := Scalar.select v109 c1_i32_74 c16_i32_72
  let v111 : BitVec 32 := Scalar.remsi v108 v110
  let c0_i32_76 : BitVec 32 := 0#32
  let v113 : BitVec 1 := Scalar.cmpi .slt v111 c0_i32_76
  let c0_i32_77 : BitVec 32 := 0#32
  let v114 : BitVec 1 := Scalar.cmpi .slt v110 c0_i32_77
  let v115 : BitVec 1 := Scalar.xori v113 v114
  let c0_i32_75 : BitVec 32 := 0#32
  let v112 : BitVec 1 := Scalar.cmpi .ne v111 c0_i32_75
  let v116 : BitVec 1 := Scalar.andi v115 v112
  let v117 : BitVec 32 := Scalar.addi v111 v110
  let v118 : BitVec 32 := Scalar.select v116 v117 v111
  let c1_i32_79 : BitVec 32 := 1#32
  let v119 : BitVec 32 := Scalar.muli v118 c1_i32_79
  let v120 : BitVec 32 := Scalar.addi c0_i32_80 v119
  v120.toNat
def k0_dev10 (d0 : Dev nD) : Nat :=
  let c0_i32_89 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v121 : BitVec 32 := Scalar.addi v2 c10_i32
  let c16_i32_81 : BitVec 32 := 16#32
  let c0_i32_82 : BitVec 32 := 0#32
  let v122 : BitVec 1 := Scalar.cmpi .eq c16_i32_81 c0_i32_82
  let c1_i32_83 : BitVec 32 := 1#32
  let v123 : BitVec 32 := Scalar.select v122 c1_i32_83 c16_i32_81
  let v124 : BitVec 32 := Scalar.remsi v121 v123
  let c0_i32_85 : BitVec 32 := 0#32
  let v126 : BitVec 1 := Scalar.cmpi .slt v124 c0_i32_85
  let c0_i32_86 : BitVec 32 := 0#32
  let v127 : BitVec 1 := Scalar.cmpi .slt v123 c0_i32_86
  let v128 : BitVec 1 := Scalar.xori v126 v127
  let c0_i32_84 : BitVec 32 := 0#32
  let v125 : BitVec 1 := Scalar.cmpi .ne v124 c0_i32_84
  let v129 : BitVec 1 := Scalar.andi v128 v125
  let v130 : BitVec 32 := Scalar.addi v124 v123
  let v131 : BitVec 32 := Scalar.select v129 v130 v124
  let c1_i32_88 : BitVec 32 := 1#32
  let v132 : BitVec 32 := Scalar.muli v131 c1_i32_88
  let v133 : BitVec 32 := Scalar.addi c0_i32_89 v132
  v133.toNat
def k0_dev11 (d0 : Dev nD) : Nat :=
  let c0_i32_98 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v134 : BitVec 32 := Scalar.addi v2 c11_i32
  let c16_i32_90 : BitVec 32 := 16#32
  let c0_i32_91 : BitVec 32 := 0#32
  let v135 : BitVec 1 := Scalar.cmpi .eq c16_i32_90 c0_i32_91
  let c1_i32_92 : BitVec 32 := 1#32
  let v136 : BitVec 32 := Scalar.select v135 c1_i32_92 c16_i32_90
  let v137 : BitVec 32 := Scalar.remsi v134 v136
  let c0_i32_94 : BitVec 32 := 0#32
  let v139 : BitVec 1 := Scalar.cmpi .slt v137 c0_i32_94
  let c0_i32_95 : BitVec 32 := 0#32
  let v140 : BitVec 1 := Scalar.cmpi .slt v136 c0_i32_95
  let v141 : BitVec 1 := Scalar.xori v139 v140
  let c0_i32_93 : BitVec 32 := 0#32
  let v138 : BitVec 1 := Scalar.cmpi .ne v137 c0_i32_93
  let v142 : BitVec 1 := Scalar.andi v141 v138
  let v143 : BitVec 32 := Scalar.addi v137 v136
  let v144 : BitVec 32 := Scalar.select v142 v143 v137
  let c1_i32_97 : BitVec 32 := 1#32
  let v145 : BitVec 32 := Scalar.muli v144 c1_i32_97
  let v146 : BitVec 32 := Scalar.addi c0_i32_98 v145
  v146.toNat
def k0_dev12 (d0 : Dev nD) : Nat :=
  let c0_i32_107 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v147 : BitVec 32 := Scalar.addi v2 c12_i32
  let c16_i32_99 : BitVec 32 := 16#32
  let c0_i32_100 : BitVec 32 := 0#32
  let v148 : BitVec 1 := Scalar.cmpi .eq c16_i32_99 c0_i32_100
  let c1_i32_101 : BitVec 32 := 1#32
  let v149 : BitVec 32 := Scalar.select v148 c1_i32_101 c16_i32_99
  let v150 : BitVec 32 := Scalar.remsi v147 v149
  let c0_i32_103 : BitVec 32 := 0#32
  let v152 : BitVec 1 := Scalar.cmpi .slt v150 c0_i32_103
  let c0_i32_104 : BitVec 32 := 0#32
  let v153 : BitVec 1 := Scalar.cmpi .slt v149 c0_i32_104
  let v154 : BitVec 1 := Scalar.xori v152 v153
  let c0_i32_102 : BitVec 32 := 0#32
  let v151 : BitVec 1 := Scalar.cmpi .ne v150 c0_i32_102
  let v155 : BitVec 1 := Scalar.andi v154 v151
  let v156 : BitVec 32 := Scalar.addi v150 v149
  let v157 : BitVec 32 := Scalar.select v155 v156 v150
  let c1_i32_106 : BitVec 32 := 1#32
  let v158 : BitVec 32 := Scalar.muli v157 c1_i32_106
  let v159 : BitVec 32 := Scalar.addi c0_i32_107 v158
  v159.toNat
def k0_dev13 (d0 : Dev nD) : Nat :=
  let c0_i32_116 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v160 : BitVec 32 := Scalar.addi v2 c13_i32
  let c16_i32_108 : BitVec 32 := 16#32
  let c0_i32_109 : BitVec 32 := 0#32
  let v161 : BitVec 1 := Scalar.cmpi .eq c16_i32_108 c0_i32_109
  let c1_i32_110 : BitVec 32 := 1#32
  let v162 : BitVec 32 := Scalar.select v161 c1_i32_110 c16_i32_108
  let v163 : BitVec 32 := Scalar.remsi v160 v162
  let c0_i32_112 : BitVec 32 := 0#32
  let v165 : BitVec 1 := Scalar.cmpi .slt v163 c0_i32_112
  let c0_i32_113 : BitVec 32 := 0#32
  let v166 : BitVec 1 := Scalar.cmpi .slt v162 c0_i32_113
  let v167 : BitVec 1 := Scalar.xori v165 v166
  let c0_i32_111 : BitVec 32 := 0#32
  let v164 : BitVec 1 := Scalar.cmpi .ne v163 c0_i32_111
  let v168 : BitVec 1 := Scalar.andi v167 v164
  let v169 : BitVec 32 := Scalar.addi v163 v162
  let v170 : BitVec 32 := Scalar.select v168 v169 v163
  let c1_i32_115 : BitVec 32 := 1#32
  let v171 : BitVec 32 := Scalar.muli v170 c1_i32_115
  let v172 : BitVec 32 := Scalar.addi c0_i32_116 v171
  v172.toNat
def k0_dev14 (d0 : Dev nD) : Nat :=
  let c0_i32_125 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v173 : BitVec 32 := Scalar.addi v2 c14_i32
  let c16_i32_117 : BitVec 32 := 16#32
  let c0_i32_118 : BitVec 32 := 0#32
  let v174 : BitVec 1 := Scalar.cmpi .eq c16_i32_117 c0_i32_118
  let c1_i32_119 : BitVec 32 := 1#32
  let v175 : BitVec 32 := Scalar.select v174 c1_i32_119 c16_i32_117
  let v176 : BitVec 32 := Scalar.remsi v173 v175
  let c0_i32_121 : BitVec 32 := 0#32
  let v178 : BitVec 1 := Scalar.cmpi .slt v176 c0_i32_121
  let c0_i32_122 : BitVec 32 := 0#32
  let v179 : BitVec 1 := Scalar.cmpi .slt v175 c0_i32_122
  let v180 : BitVec 1 := Scalar.xori v178 v179
  let c0_i32_120 : BitVec 32 := 0#32
  let v177 : BitVec 1 := Scalar.cmpi .ne v176 c0_i32_120
  let v181 : BitVec 1 := Scalar.andi v180 v177
  let v182 : BitVec 32 := Scalar.addi v176 v175
  let v183 : BitVec 32 := Scalar.select v181 v182 v176
  let c1_i32_124 : BitVec 32 := 1#32
  let v184 : BitVec 32 := Scalar.muli v183 c1_i32_124
  let v185 : BitVec 32 := Scalar.addi c0_i32_125 v184
  v185.toNat
def k0_dev15 (d0 : Dev nD) : Nat :=
  let c0_i32_134 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v186 : BitVec 32 := Scalar.addi v2 c15_i32
  let c16_i32_126 : BitVec 32 := 16#32
  let c0_i32_127 : BitVec 32 := 0#32
  let v187 : BitVec 1 := Scalar.cmpi .eq c16_i32_126 c0_i32_127
  let c1_i32_128 : BitVec 32 := 1#32
  let v188 : BitVec 32 := Scalar.select v187 c1_i32_128 c16_i32_126
  let v189 : BitVec 32 := Scalar.remsi v186 v188
  let c0_i32_130 : BitVec 32 := 0#32
  let v191 : BitVec 1 := Scalar.cmpi .slt v189 c0_i32_130
  let c0_i32_131 : BitVec 32 := 0#32
  let v192 : BitVec 1 := Scalar.cmpi .slt v188 c0_i32_131
  let v193 : BitVec 1 := Scalar.xori v191 v192
  let c0_i32_129 : BitVec 32 := 0#32
  let v190 : BitVec 1 := Scalar.cmpi .ne v189 c0_i32_129
  let v194 : BitVec 1 := Scalar.andi v193 v190
  let v195 : BitVec 32 := Scalar.addi v189 v188
  let v196 : BitVec 32 := Scalar.select v194 v195 v189
  let c1_i32_133 : BitVec 32 := 1#32
  let v197 : BitVec 32 := Scalar.muli v196 c1_i32_133
  let v198 : BitVec 32 := Scalar.addi c0_i32_134 v197
  v198.toNat
def k0_cond1 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_156 : BitVec 32 := 0#32
  let v232 : BitVec 1 := Scalar.cmpi .ne v2 c0_i32_156
  let v233 : BitVec 32 := Scalar.extui v232
  let c0_i32_157 : BitVec 32 := 0#32
  let v234 : BitVec 1 := Scalar.cmpi .ne v233 c0_i32_157
  v234

def k0_off1 (d0 : Dev nD) : Fin 1 → Nat :=
  let c0_i32_147 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v219 : BitVec 32 := Scalar.subi c0_i32_147 v2
  let c1_i32_148 : BitVec 32 := 1#32
  let v220 : BitVec 32 := Scalar.subi v219 c1_i32_148
  let c16_i32_149 : BitVec 32 := 16#32
  let c0_i32_150 : BitVec 32 := 0#32
  let v221 : BitVec 1 := Scalar.cmpi .eq c16_i32_149 c0_i32_150
  let c1_i32_151 : BitVec 32 := 1#32
  let v222 : BitVec 32 := Scalar.select v221 c1_i32_151 c16_i32_149
  let v223 : BitVec 32 := Scalar.remsi v220 v222
  let c0_i32_153 : BitVec 32 := 0#32
  let v225 : BitVec 1 := Scalar.cmpi .slt v223 c0_i32_153
  let c0_i32_154 : BitVec 32 := 0#32
  let v226 : BitVec 1 := Scalar.cmpi .slt v222 c0_i32_154
  let v227 : BitVec 1 := Scalar.xori v225 v226
  let c0_i32_152 : BitVec 32 := 0#32
  let v224 : BitVec 1 := Scalar.cmpi .ne v223 c0_i32_152
  let v228 : BitVec 1 := Scalar.andi v227 v224
  let v229 : BitVec 32 := Scalar.addi v223 v222
  let v230 : BitVec 32 := Scalar.select v228 v229 v223
  let c14_i32_155 : BitVec 32 := 14#32
  let v231 : BitVec 32 := Scalar.minsi v230 c14_i32_155
  ![v231.toNat]
def k0_off2 (d0 : Dev nD) : Fin 3 → Nat :=
  let c0_i32_147 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v219 : BitVec 32 := Scalar.subi c0_i32_147 v2
  let c1_i32_148 : BitVec 32 := 1#32
  let v220 : BitVec 32 := Scalar.subi v219 c1_i32_148
  let c16_i32_149 : BitVec 32 := 16#32
  let c0_i32_150 : BitVec 32 := 0#32
  let v221 : BitVec 1 := Scalar.cmpi .eq c16_i32_149 c0_i32_150
  let c1_i32_151 : BitVec 32 := 1#32
  let v222 : BitVec 32 := Scalar.select v221 c1_i32_151 c16_i32_149
  let v223 : BitVec 32 := Scalar.remsi v220 v222
  let c0_i32_153 : BitVec 32 := 0#32
  let v225 : BitVec 1 := Scalar.cmpi .slt v223 c0_i32_153
  let c0_i32_154 : BitVec 32 := 0#32
  let v226 : BitVec 1 := Scalar.cmpi .slt v222 c0_i32_154
  let v227 : BitVec 1 := Scalar.xori v225 v226
  let c0_i32_152 : BitVec 32 := 0#32
  let v224 : BitVec 1 := Scalar.cmpi .ne v223 c0_i32_152
  let v228 : BitVec 1 := Scalar.andi v227 v224
  let v229 : BitVec 32 := Scalar.addi v223 v222
  let v230 : BitVec 32 := Scalar.select v228 v229 v223
  let c14_i32_155 : BitVec 32 := 14#32
  let v231 : BitVec 32 := Scalar.minsi v230 c14_i32_155
  let c0_i32_1158 : BitVec 32 := 0#32
  let c0_i32_1159 : BitVec 32 := 0#32
  ![v231.toNat, 0, 0]
def k0_dev16 : Nat :=
  let c0_i32_1157 : BitVec 32 := 0#32
  let c0_i32_1155 : BitVec 32 := 0#32
  let c1_i32_1156 : BitVec 32 := 1#32
  let v1367 : BitVec 32 := Scalar.muli c0_i32_1155 c1_i32_1156
  let v1368 : BitVec 32 := Scalar.addi c0_i32_1157 v1367
  v1368.toNat
def k0_cond2 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_167 : BitVec 32 := 1#32
  let v248 : BitVec 1 := Scalar.cmpi .ne v2 c1_i32_167
  let v249 : BitVec 32 := Scalar.extui v248
  let c0_i32_168 : BitVec 32 := 0#32
  let v250 : BitVec 1 := Scalar.cmpi .ne v249 c0_i32_168
  v250

def k0_off3 (d0 : Dev nD) : Fin 1 → Nat :=
  let c1_i32_158 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v235 : BitVec 32 := Scalar.subi c1_i32_158 v2
  let c1_i32_159 : BitVec 32 := 1#32
  let v236 : BitVec 32 := Scalar.subi v235 c1_i32_159
  let c16_i32_160 : BitVec 32 := 16#32
  let c0_i32_161 : BitVec 32 := 0#32
  let v237 : BitVec 1 := Scalar.cmpi .eq c16_i32_160 c0_i32_161
  let c1_i32_162 : BitVec 32 := 1#32
  let v238 : BitVec 32 := Scalar.select v237 c1_i32_162 c16_i32_160
  let v239 : BitVec 32 := Scalar.remsi v236 v238
  let c0_i32_164 : BitVec 32 := 0#32
  let v241 : BitVec 1 := Scalar.cmpi .slt v239 c0_i32_164
  let c0_i32_165 : BitVec 32 := 0#32
  let v242 : BitVec 1 := Scalar.cmpi .slt v238 c0_i32_165
  let v243 : BitVec 1 := Scalar.xori v241 v242
  let c0_i32_163 : BitVec 32 := 0#32
  let v240 : BitVec 1 := Scalar.cmpi .ne v239 c0_i32_163
  let v244 : BitVec 1 := Scalar.andi v243 v240
  let v245 : BitVec 32 := Scalar.addi v239 v238
  let v246 : BitVec 32 := Scalar.select v244 v245 v239
  let c14_i32_166 : BitVec 32 := 14#32
  let v247 : BitVec 32 := Scalar.minsi v246 c14_i32_166
  ![v247.toNat]
def k0_off4 (d0 : Dev nD) : Fin 3 → Nat :=
  let c1_i32_158 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v235 : BitVec 32 := Scalar.subi c1_i32_158 v2
  let c1_i32_159 : BitVec 32 := 1#32
  let v236 : BitVec 32 := Scalar.subi v235 c1_i32_159
  let c16_i32_160 : BitVec 32 := 16#32
  let c0_i32_161 : BitVec 32 := 0#32
  let v237 : BitVec 1 := Scalar.cmpi .eq c16_i32_160 c0_i32_161
  let c1_i32_162 : BitVec 32 := 1#32
  let v238 : BitVec 32 := Scalar.select v237 c1_i32_162 c16_i32_160
  let v239 : BitVec 32 := Scalar.remsi v236 v238
  let c0_i32_164 : BitVec 32 := 0#32
  let v241 : BitVec 1 := Scalar.cmpi .slt v239 c0_i32_164
  let c0_i32_165 : BitVec 32 := 0#32
  let v242 : BitVec 1 := Scalar.cmpi .slt v238 c0_i32_165
  let v243 : BitVec 1 := Scalar.xori v241 v242
  let c0_i32_163 : BitVec 32 := 0#32
  let v240 : BitVec 1 := Scalar.cmpi .ne v239 c0_i32_163
  let v244 : BitVec 1 := Scalar.andi v243 v240
  let v245 : BitVec 32 := Scalar.addi v239 v238
  let v246 : BitVec 32 := Scalar.select v244 v245 v239
  let c14_i32_166 : BitVec 32 := 14#32
  let v247 : BitVec 32 := Scalar.minsi v246 c14_i32_166
  let c0_i32_1158 : BitVec 32 := 0#32
  let c0_i32_1159 : BitVec 32 := 0#32
  ![v247.toNat, 0, 0]
def k0_dev17 : Nat :=
  let c0_i32_1157 : BitVec 32 := 0#32
  let c1_i32_1155 : BitVec 32 := 1#32
  let c1_i32_1156 : BitVec 32 := 1#32
  let v1367 : BitVec 32 := Scalar.muli c1_i32_1155 c1_i32_1156
  let v1368 : BitVec 32 := Scalar.addi c0_i32_1157 v1367
  v1368.toNat
def k0_cond3 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_178 : BitVec 32 := 2#32
  let v264 : BitVec 1 := Scalar.cmpi .ne v2 c2_i32_178
  let v265 : BitVec 32 := Scalar.extui v264
  let c0_i32_179 : BitVec 32 := 0#32
  let v266 : BitVec 1 := Scalar.cmpi .ne v265 c0_i32_179
  v266

def k0_off5 (d0 : Dev nD) : Fin 1 → Nat :=
  let c2_i32_169 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v251 : BitVec 32 := Scalar.subi c2_i32_169 v2
  let c1_i32_170 : BitVec 32 := 1#32
  let v252 : BitVec 32 := Scalar.subi v251 c1_i32_170
  let c16_i32_171 : BitVec 32 := 16#32
  let c0_i32_172 : BitVec 32 := 0#32
  let v253 : BitVec 1 := Scalar.cmpi .eq c16_i32_171 c0_i32_172
  let c1_i32_173 : BitVec 32 := 1#32
  let v254 : BitVec 32 := Scalar.select v253 c1_i32_173 c16_i32_171
  let v255 : BitVec 32 := Scalar.remsi v252 v254
  let c0_i32_175 : BitVec 32 := 0#32
  let v257 : BitVec 1 := Scalar.cmpi .slt v255 c0_i32_175
  let c0_i32_176 : BitVec 32 := 0#32
  let v258 : BitVec 1 := Scalar.cmpi .slt v254 c0_i32_176
  let v259 : BitVec 1 := Scalar.xori v257 v258
  let c0_i32_174 : BitVec 32 := 0#32
  let v256 : BitVec 1 := Scalar.cmpi .ne v255 c0_i32_174
  let v260 : BitVec 1 := Scalar.andi v259 v256
  let v261 : BitVec 32 := Scalar.addi v255 v254
  let v262 : BitVec 32 := Scalar.select v260 v261 v255
  let c14_i32_177 : BitVec 32 := 14#32
  let v263 : BitVec 32 := Scalar.minsi v262 c14_i32_177
  ![v263.toNat]
def k0_off6 (d0 : Dev nD) : Fin 3 → Nat :=
  let c2_i32_169 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v251 : BitVec 32 := Scalar.subi c2_i32_169 v2
  let c1_i32_170 : BitVec 32 := 1#32
  let v252 : BitVec 32 := Scalar.subi v251 c1_i32_170
  let c16_i32_171 : BitVec 32 := 16#32
  let c0_i32_172 : BitVec 32 := 0#32
  let v253 : BitVec 1 := Scalar.cmpi .eq c16_i32_171 c0_i32_172
  let c1_i32_173 : BitVec 32 := 1#32
  let v254 : BitVec 32 := Scalar.select v253 c1_i32_173 c16_i32_171
  let v255 : BitVec 32 := Scalar.remsi v252 v254
  let c0_i32_175 : BitVec 32 := 0#32
  let v257 : BitVec 1 := Scalar.cmpi .slt v255 c0_i32_175
  let c0_i32_176 : BitVec 32 := 0#32
  let v258 : BitVec 1 := Scalar.cmpi .slt v254 c0_i32_176
  let v259 : BitVec 1 := Scalar.xori v257 v258
  let c0_i32_174 : BitVec 32 := 0#32
  let v256 : BitVec 1 := Scalar.cmpi .ne v255 c0_i32_174
  let v260 : BitVec 1 := Scalar.andi v259 v256
  let v261 : BitVec 32 := Scalar.addi v255 v254
  let v262 : BitVec 32 := Scalar.select v260 v261 v255
  let c14_i32_177 : BitVec 32 := 14#32
  let v263 : BitVec 32 := Scalar.minsi v262 c14_i32_177
  let c0_i32_1158 : BitVec 32 := 0#32
  let c0_i32_1159 : BitVec 32 := 0#32
  ![v263.toNat, 0, 0]
def k0_dev18 : Nat :=
  let c0_i32_1157 : BitVec 32 := 0#32
  let c2_i32_1155 : BitVec 32 := 2#32
  let c1_i32_1156 : BitVec 32 := 1#32
  let v1367 : BitVec 32 := Scalar.muli c2_i32_1155 c1_i32_1156
  let v1368 : BitVec 32 := Scalar.addi c0_i32_1157 v1367
  v1368.toNat
def k0_cond4 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_189 : BitVec 32 := 3#32
  let v280 : BitVec 1 := Scalar.cmpi .ne v2 c3_i32_189
  let v281 : BitVec 32 := Scalar.extui v280
  let c0_i32_190 : BitVec 32 := 0#32
  let v282 : BitVec 1 := Scalar.cmpi .ne v281 c0_i32_190
  v282

def k0_off7 (d0 : Dev nD) : Fin 1 → Nat :=
  let c3_i32_180 : BitVec 32 := 3#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v267 : BitVec 32 := Scalar.subi c3_i32_180 v2
  let c1_i32_181 : BitVec 32 := 1#32
  let v268 : BitVec 32 := Scalar.subi v267 c1_i32_181
  let c16_i32_182 : BitVec 32 := 16#32
  let c0_i32_183 : BitVec 32 := 0#32
  let v269 : BitVec 1 := Scalar.cmpi .eq c16_i32_182 c0_i32_183
  let c1_i32_184 : BitVec 32 := 1#32
  let v270 : BitVec 32 := Scalar.select v269 c1_i32_184 c16_i32_182
  let v271 : BitVec 32 := Scalar.remsi v268 v270
  let c0_i32_186 : BitVec 32 := 0#32
  let v273 : BitVec 1 := Scalar.cmpi .slt v271 c0_i32_186
  let c0_i32_187 : BitVec 32 := 0#32
  let v274 : BitVec 1 := Scalar.cmpi .slt v270 c0_i32_187
  let v275 : BitVec 1 := Scalar.xori v273 v274
  let c0_i32_185 : BitVec 32 := 0#32
  let v272 : BitVec 1 := Scalar.cmpi .ne v271 c0_i32_185
  let v276 : BitVec 1 := Scalar.andi v275 v272
  let v277 : BitVec 32 := Scalar.addi v271 v270
  let v278 : BitVec 32 := Scalar.select v276 v277 v271
  let c14_i32_188 : BitVec 32 := 14#32
  let v279 : BitVec 32 := Scalar.minsi v278 c14_i32_188
  ![v279.toNat]
def k0_off8 (d0 : Dev nD) : Fin 3 → Nat :=
  let c3_i32_180 : BitVec 32 := 3#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v267 : BitVec 32 := Scalar.subi c3_i32_180 v2
  let c1_i32_181 : BitVec 32 := 1#32
  let v268 : BitVec 32 := Scalar.subi v267 c1_i32_181
  let c16_i32_182 : BitVec 32 := 16#32
  let c0_i32_183 : BitVec 32 := 0#32
  let v269 : BitVec 1 := Scalar.cmpi .eq c16_i32_182 c0_i32_183
  let c1_i32_184 : BitVec 32 := 1#32
  let v270 : BitVec 32 := Scalar.select v269 c1_i32_184 c16_i32_182
  let v271 : BitVec 32 := Scalar.remsi v268 v270
  let c0_i32_186 : BitVec 32 := 0#32
  let v273 : BitVec 1 := Scalar.cmpi .slt v271 c0_i32_186
  let c0_i32_187 : BitVec 32 := 0#32
  let v274 : BitVec 1 := Scalar.cmpi .slt v270 c0_i32_187
  let v275 : BitVec 1 := Scalar.xori v273 v274
  let c0_i32_185 : BitVec 32 := 0#32
  let v272 : BitVec 1 := Scalar.cmpi .ne v271 c0_i32_185
  let v276 : BitVec 1 := Scalar.andi v275 v272
  let v277 : BitVec 32 := Scalar.addi v271 v270
  let v278 : BitVec 32 := Scalar.select v276 v277 v271
  let c14_i32_188 : BitVec 32 := 14#32
  let v279 : BitVec 32 := Scalar.minsi v278 c14_i32_188
  let c0_i32_1158 : BitVec 32 := 0#32
  let c0_i32_1159 : BitVec 32 := 0#32
  ![v279.toNat, 0, 0]
def k0_dev19 : Nat :=
  let c0_i32_1157 : BitVec 32 := 0#32
  let c3_i32_1155 : BitVec 32 := 3#32
  let c1_i32_1156 : BitVec 32 := 1#32
  let v1367 : BitVec 32 := Scalar.muli c3_i32_1155 c1_i32_1156
  let v1368 : BitVec 32 := Scalar.addi c0_i32_1157 v1367
  v1368.toNat
def k0_cond5 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_204 : BitVec 32 := 4#32
  let v308 : BitVec 1 := Scalar.cmpi .ne v2 c4_i32_204
  let v309 : BitVec 32 := Scalar.extui v308
  let c0_i32_205 : BitVec 32 := 0#32
  let v310 : BitVec 1 := Scalar.cmpi .ne v309 c0_i32_205
  v310

def k0_off9 (d0 : Dev nD) : Fin 1 → Nat :=
  let c4_i32_195 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v295 : BitVec 32 := Scalar.subi c4_i32_195 v2
  let c1_i32_196 : BitVec 32 := 1#32
  let v296 : BitVec 32 := Scalar.subi v295 c1_i32_196
  let c16_i32_197 : BitVec 32 := 16#32
  let c0_i32_198 : BitVec 32 := 0#32
  let v297 : BitVec 1 := Scalar.cmpi .eq c16_i32_197 c0_i32_198
  let c1_i32_199 : BitVec 32 := 1#32
  let v298 : BitVec 32 := Scalar.select v297 c1_i32_199 c16_i32_197
  let v299 : BitVec 32 := Scalar.remsi v296 v298
  let c0_i32_201 : BitVec 32 := 0#32
  let v301 : BitVec 1 := Scalar.cmpi .slt v299 c0_i32_201
  let c0_i32_202 : BitVec 32 := 0#32
  let v302 : BitVec 1 := Scalar.cmpi .slt v298 c0_i32_202
  let v303 : BitVec 1 := Scalar.xori v301 v302
  let c0_i32_200 : BitVec 32 := 0#32
  let v300 : BitVec 1 := Scalar.cmpi .ne v299 c0_i32_200
  let v304 : BitVec 1 := Scalar.andi v303 v300
  let v305 : BitVec 32 := Scalar.addi v299 v298
  let v306 : BitVec 32 := Scalar.select v304 v305 v299
  let c14_i32_203 : BitVec 32 := 14#32
  let v307 : BitVec 32 := Scalar.minsi v306 c14_i32_203
  ![v307.toNat]
def k0_off10 (d0 : Dev nD) : Fin 3 → Nat :=
  let c4_i32_195 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v295 : BitVec 32 := Scalar.subi c4_i32_195 v2
  let c1_i32_196 : BitVec 32 := 1#32
  let v296 : BitVec 32 := Scalar.subi v295 c1_i32_196
  let c16_i32_197 : BitVec 32 := 16#32
  let c0_i32_198 : BitVec 32 := 0#32
  let v297 : BitVec 1 := Scalar.cmpi .eq c16_i32_197 c0_i32_198
  let c1_i32_199 : BitVec 32 := 1#32
  let v298 : BitVec 32 := Scalar.select v297 c1_i32_199 c16_i32_197
  let v299 : BitVec 32 := Scalar.remsi v296 v298
  let c0_i32_201 : BitVec 32 := 0#32
  let v301 : BitVec 1 := Scalar.cmpi .slt v299 c0_i32_201
  let c0_i32_202 : BitVec 32 := 0#32
  let v302 : BitVec 1 := Scalar.cmpi .slt v298 c0_i32_202
  let v303 : BitVec 1 := Scalar.xori v301 v302
  let c0_i32_200 : BitVec 32 := 0#32
  let v300 : BitVec 1 := Scalar.cmpi .ne v299 c0_i32_200
  let v304 : BitVec 1 := Scalar.andi v303 v300
  let v305 : BitVec 32 := Scalar.addi v299 v298
  let v306 : BitVec 32 := Scalar.select v304 v305 v299
  let c14_i32_203 : BitVec 32 := 14#32
  let v307 : BitVec 32 := Scalar.minsi v306 c14_i32_203
  let c0_i32_1158 : BitVec 32 := 0#32
  let c0_i32_1159 : BitVec 32 := 0#32
  ![v307.toNat, 0, 0]
def k0_dev20 : Nat :=
  let c0_i32_1157 : BitVec 32 := 0#32
  let c4_i32_1155 : BitVec 32 := 4#32
  let c1_i32_1156 : BitVec 32 := 1#32
  let v1367 : BitVec 32 := Scalar.muli c4_i32_1155 c1_i32_1156
  let v1368 : BitVec 32 := Scalar.addi c0_i32_1157 v1367
  v1368.toNat
def k0_cond6 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_215 : BitVec 32 := 5#32
  let v324 : BitVec 1 := Scalar.cmpi .ne v2 c5_i32_215
  let v325 : BitVec 32 := Scalar.extui v324
  let c0_i32_216 : BitVec 32 := 0#32
  let v326 : BitVec 1 := Scalar.cmpi .ne v325 c0_i32_216
  v326

def k0_off11 (d0 : Dev nD) : Fin 1 → Nat :=
  let c5_i32_206 : BitVec 32 := 5#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v311 : BitVec 32 := Scalar.subi c5_i32_206 v2
  let c1_i32_207 : BitVec 32 := 1#32
  let v312 : BitVec 32 := Scalar.subi v311 c1_i32_207
  let c16_i32_208 : BitVec 32 := 16#32
  let c0_i32_209 : BitVec 32 := 0#32
  let v313 : BitVec 1 := Scalar.cmpi .eq c16_i32_208 c0_i32_209
  let c1_i32_210 : BitVec 32 := 1#32
  let v314 : BitVec 32 := Scalar.select v313 c1_i32_210 c16_i32_208
  let v315 : BitVec 32 := Scalar.remsi v312 v314
  let c0_i32_212 : BitVec 32 := 0#32
  let v317 : BitVec 1 := Scalar.cmpi .slt v315 c0_i32_212
  let c0_i32_213 : BitVec 32 := 0#32
  let v318 : BitVec 1 := Scalar.cmpi .slt v314 c0_i32_213
  let v319 : BitVec 1 := Scalar.xori v317 v318
  let c0_i32_211 : BitVec 32 := 0#32
  let v316 : BitVec 1 := Scalar.cmpi .ne v315 c0_i32_211
  let v320 : BitVec 1 := Scalar.andi v319 v316
  let v321 : BitVec 32 := Scalar.addi v315 v314
  let v322 : BitVec 32 := Scalar.select v320 v321 v315
  let c14_i32_214 : BitVec 32 := 14#32
  let v323 : BitVec 32 := Scalar.minsi v322 c14_i32_214
  ![v323.toNat]
def k0_off12 (d0 : Dev nD) : Fin 3 → Nat :=
  let c5_i32_206 : BitVec 32 := 5#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v311 : BitVec 32 := Scalar.subi c5_i32_206 v2
  let c1_i32_207 : BitVec 32 := 1#32
  let v312 : BitVec 32 := Scalar.subi v311 c1_i32_207
  let c16_i32_208 : BitVec 32 := 16#32
  let c0_i32_209 : BitVec 32 := 0#32
  let v313 : BitVec 1 := Scalar.cmpi .eq c16_i32_208 c0_i32_209
  let c1_i32_210 : BitVec 32 := 1#32
  let v314 : BitVec 32 := Scalar.select v313 c1_i32_210 c16_i32_208
  let v315 : BitVec 32 := Scalar.remsi v312 v314
  let c0_i32_212 : BitVec 32 := 0#32
  let v317 : BitVec 1 := Scalar.cmpi .slt v315 c0_i32_212
  let c0_i32_213 : BitVec 32 := 0#32
  let v318 : BitVec 1 := Scalar.cmpi .slt v314 c0_i32_213
  let v319 : BitVec 1 := Scalar.xori v317 v318
  let c0_i32_211 : BitVec 32 := 0#32
  let v316 : BitVec 1 := Scalar.cmpi .ne v315 c0_i32_211
  let v320 : BitVec 1 := Scalar.andi v319 v316
  let v321 : BitVec 32 := Scalar.addi v315 v314
  let v322 : BitVec 32 := Scalar.select v320 v321 v315
  let c14_i32_214 : BitVec 32 := 14#32
  let v323 : BitVec 32 := Scalar.minsi v322 c14_i32_214
  let c0_i32_1158 : BitVec 32 := 0#32
  let c0_i32_1159 : BitVec 32 := 0#32
  ![v323.toNat, 0, 0]
def k0_dev21 : Nat :=
  let c0_i32_1157 : BitVec 32 := 0#32
  let c5_i32_1155 : BitVec 32 := 5#32
  let c1_i32_1156 : BitVec 32 := 1#32
  let v1367 : BitVec 32 := Scalar.muli c5_i32_1155 c1_i32_1156
  let v1368 : BitVec 32 := Scalar.addi c0_i32_1157 v1367
  v1368.toNat
def k0_cond7 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_226 : BitVec 32 := 6#32
  let v340 : BitVec 1 := Scalar.cmpi .ne v2 c6_i32_226
  let v341 : BitVec 32 := Scalar.extui v340
  let c0_i32_227 : BitVec 32 := 0#32
  let v342 : BitVec 1 := Scalar.cmpi .ne v341 c0_i32_227
  v342

def k0_off13 (d0 : Dev nD) : Fin 1 → Nat :=
  let c6_i32_217 : BitVec 32 := 6#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v327 : BitVec 32 := Scalar.subi c6_i32_217 v2
  let c1_i32_218 : BitVec 32 := 1#32
  let v328 : BitVec 32 := Scalar.subi v327 c1_i32_218
  let c16_i32_219 : BitVec 32 := 16#32
  let c0_i32_220 : BitVec 32 := 0#32
  let v329 : BitVec 1 := Scalar.cmpi .eq c16_i32_219 c0_i32_220
  let c1_i32_221 : BitVec 32 := 1#32
  let v330 : BitVec 32 := Scalar.select v329 c1_i32_221 c16_i32_219
  let v331 : BitVec 32 := Scalar.remsi v328 v330
  let c0_i32_223 : BitVec 32 := 0#32
  let v333 : BitVec 1 := Scalar.cmpi .slt v331 c0_i32_223
  let c0_i32_224 : BitVec 32 := 0#32
  let v334 : BitVec 1 := Scalar.cmpi .slt v330 c0_i32_224
  let v335 : BitVec 1 := Scalar.xori v333 v334
  let c0_i32_222 : BitVec 32 := 0#32
  let v332 : BitVec 1 := Scalar.cmpi .ne v331 c0_i32_222
  let v336 : BitVec 1 := Scalar.andi v335 v332
  let v337 : BitVec 32 := Scalar.addi v331 v330
  let v338 : BitVec 32 := Scalar.select v336 v337 v331
  let c14_i32_225 : BitVec 32 := 14#32
  let v339 : BitVec 32 := Scalar.minsi v338 c14_i32_225
  ![v339.toNat]
def k0_off14 (d0 : Dev nD) : Fin 3 → Nat :=
  let c6_i32_217 : BitVec 32 := 6#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v327 : BitVec 32 := Scalar.subi c6_i32_217 v2
  let c1_i32_218 : BitVec 32 := 1#32
  let v328 : BitVec 32 := Scalar.subi v327 c1_i32_218
  let c16_i32_219 : BitVec 32 := 16#32
  let c0_i32_220 : BitVec 32 := 0#32
  let v329 : BitVec 1 := Scalar.cmpi .eq c16_i32_219 c0_i32_220
  let c1_i32_221 : BitVec 32 := 1#32
  let v330 : BitVec 32 := Scalar.select v329 c1_i32_221 c16_i32_219
  let v331 : BitVec 32 := Scalar.remsi v328 v330
  let c0_i32_223 : BitVec 32 := 0#32
  let v333 : BitVec 1 := Scalar.cmpi .slt v331 c0_i32_223
  let c0_i32_224 : BitVec 32 := 0#32
  let v334 : BitVec 1 := Scalar.cmpi .slt v330 c0_i32_224
  let v335 : BitVec 1 := Scalar.xori v333 v334
  let c0_i32_222 : BitVec 32 := 0#32
  let v332 : BitVec 1 := Scalar.cmpi .ne v331 c0_i32_222
  let v336 : BitVec 1 := Scalar.andi v335 v332
  let v337 : BitVec 32 := Scalar.addi v331 v330
  let v338 : BitVec 32 := Scalar.select v336 v337 v331
  let c14_i32_225 : BitVec 32 := 14#32
  let v339 : BitVec 32 := Scalar.minsi v338 c14_i32_225
  let c0_i32_1158 : BitVec 32 := 0#32
  let c0_i32_1159 : BitVec 32 := 0#32
  ![v339.toNat, 0, 0]
def k0_dev22 : Nat :=
  let c0_i32_1157 : BitVec 32 := 0#32
  let c6_i32_1155 : BitVec 32 := 6#32
  let c1_i32_1156 : BitVec 32 := 1#32
  let v1367 : BitVec 32 := Scalar.muli c6_i32_1155 c1_i32_1156
  let v1368 : BitVec 32 := Scalar.addi c0_i32_1157 v1367
  v1368.toNat
def k0_cond8 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_237 : BitVec 32 := 7#32
  let v356 : BitVec 1 := Scalar.cmpi .ne v2 c7_i32_237
  let v357 : BitVec 32 := Scalar.extui v356
  let c0_i32_238 : BitVec 32 := 0#32
  let v358 : BitVec 1 := Scalar.cmpi .ne v357 c0_i32_238
  v358

def k0_off15 (d0 : Dev nD) : Fin 1 → Nat :=
  let c7_i32_228 : BitVec 32 := 7#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v343 : BitVec 32 := Scalar.subi c7_i32_228 v2
  let c1_i32_229 : BitVec 32 := 1#32
  let v344 : BitVec 32 := Scalar.subi v343 c1_i32_229
  let c16_i32_230 : BitVec 32 := 16#32
  let c0_i32_231 : BitVec 32 := 0#32
  let v345 : BitVec 1 := Scalar.cmpi .eq c16_i32_230 c0_i32_231
  let c1_i32_232 : BitVec 32 := 1#32
  let v346 : BitVec 32 := Scalar.select v345 c1_i32_232 c16_i32_230
  let v347 : BitVec 32 := Scalar.remsi v344 v346
  let c0_i32_234 : BitVec 32 := 0#32
  let v349 : BitVec 1 := Scalar.cmpi .slt v347 c0_i32_234
  let c0_i32_235 : BitVec 32 := 0#32
  let v350 : BitVec 1 := Scalar.cmpi .slt v346 c0_i32_235
  let v351 : BitVec 1 := Scalar.xori v349 v350
  let c0_i32_233 : BitVec 32 := 0#32
  let v348 : BitVec 1 := Scalar.cmpi .ne v347 c0_i32_233
  let v352 : BitVec 1 := Scalar.andi v351 v348
  let v353 : BitVec 32 := Scalar.addi v347 v346
  let v354 : BitVec 32 := Scalar.select v352 v353 v347
  let c14_i32_236 : BitVec 32 := 14#32
  let v355 : BitVec 32 := Scalar.minsi v354 c14_i32_236
  ![v355.toNat]
def k0_off16 (d0 : Dev nD) : Fin 3 → Nat :=
  let c7_i32_228 : BitVec 32 := 7#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v343 : BitVec 32 := Scalar.subi c7_i32_228 v2
  let c1_i32_229 : BitVec 32 := 1#32
  let v344 : BitVec 32 := Scalar.subi v343 c1_i32_229
  let c16_i32_230 : BitVec 32 := 16#32
  let c0_i32_231 : BitVec 32 := 0#32
  let v345 : BitVec 1 := Scalar.cmpi .eq c16_i32_230 c0_i32_231
  let c1_i32_232 : BitVec 32 := 1#32
  let v346 : BitVec 32 := Scalar.select v345 c1_i32_232 c16_i32_230
  let v347 : BitVec 32 := Scalar.remsi v344 v346
  let c0_i32_234 : BitVec 32 := 0#32
  let v349 : BitVec 1 := Scalar.cmpi .slt v347 c0_i32_234
  let c0_i32_235 : BitVec 32 := 0#32
  let v350 : BitVec 1 := Scalar.cmpi .slt v346 c0_i32_235
  let v351 : BitVec 1 := Scalar.xori v349 v350
  let c0_i32_233 : BitVec 32 := 0#32
  let v348 : BitVec 1 := Scalar.cmpi .ne v347 c0_i32_233
  let v352 : BitVec 1 := Scalar.andi v351 v348
  let v353 : BitVec 32 := Scalar.addi v347 v346
  let v354 : BitVec 32 := Scalar.select v352 v353 v347
  let c14_i32_236 : BitVec 32 := 14#32
  let v355 : BitVec 32 := Scalar.minsi v354 c14_i32_236
  let c0_i32_1158 : BitVec 32 := 0#32
  let c0_i32_1159 : BitVec 32 := 0#32
  ![v355.toNat, 0, 0]
def k0_dev23 : Nat :=
  let c0_i32_1157 : BitVec 32 := 0#32
  let c7_i32_1155 : BitVec 32 := 7#32
  let c1_i32_1156 : BitVec 32 := 1#32
  let v1367 : BitVec 32 := Scalar.muli c7_i32_1155 c1_i32_1156
  let v1368 : BitVec 32 := Scalar.addi c0_i32_1157 v1367
  v1368.toNat
def k0_cond9 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_252 : BitVec 32 := 8#32
  let v384 : BitVec 1 := Scalar.cmpi .ne v2 c8_i32_252
  let v385 : BitVec 32 := Scalar.extui v384
  let c0_i32_253 : BitVec 32 := 0#32
  let v386 : BitVec 1 := Scalar.cmpi .ne v385 c0_i32_253
  v386

def k0_off17 (d0 : Dev nD) : Fin 1 → Nat :=
  let c8_i32_243 : BitVec 32 := 8#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v371 : BitVec 32 := Scalar.subi c8_i32_243 v2
  let c1_i32_244 : BitVec 32 := 1#32
  let v372 : BitVec 32 := Scalar.subi v371 c1_i32_244
  let c16_i32_245 : BitVec 32 := 16#32
  let c0_i32_246 : BitVec 32 := 0#32
  let v373 : BitVec 1 := Scalar.cmpi .eq c16_i32_245 c0_i32_246
  let c1_i32_247 : BitVec 32 := 1#32
  let v374 : BitVec 32 := Scalar.select v373 c1_i32_247 c16_i32_245
  let v375 : BitVec 32 := Scalar.remsi v372 v374
  let c0_i32_249 : BitVec 32 := 0#32
  let v377 : BitVec 1 := Scalar.cmpi .slt v375 c0_i32_249
  let c0_i32_250 : BitVec 32 := 0#32
  let v378 : BitVec 1 := Scalar.cmpi .slt v374 c0_i32_250
  let v379 : BitVec 1 := Scalar.xori v377 v378
  let c0_i32_248 : BitVec 32 := 0#32
  let v376 : BitVec 1 := Scalar.cmpi .ne v375 c0_i32_248
  let v380 : BitVec 1 := Scalar.andi v379 v376
  let v381 : BitVec 32 := Scalar.addi v375 v374
  let v382 : BitVec 32 := Scalar.select v380 v381 v375
  let c14_i32_251 : BitVec 32 := 14#32
  let v383 : BitVec 32 := Scalar.minsi v382 c14_i32_251
  ![v383.toNat]
def k0_off18 (d0 : Dev nD) : Fin 3 → Nat :=
  let c8_i32_243 : BitVec 32 := 8#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v371 : BitVec 32 := Scalar.subi c8_i32_243 v2
  let c1_i32_244 : BitVec 32 := 1#32
  let v372 : BitVec 32 := Scalar.subi v371 c1_i32_244
  let c16_i32_245 : BitVec 32 := 16#32
  let c0_i32_246 : BitVec 32 := 0#32
  let v373 : BitVec 1 := Scalar.cmpi .eq c16_i32_245 c0_i32_246
  let c1_i32_247 : BitVec 32 := 1#32
  let v374 : BitVec 32 := Scalar.select v373 c1_i32_247 c16_i32_245
  let v375 : BitVec 32 := Scalar.remsi v372 v374
  let c0_i32_249 : BitVec 32 := 0#32
  let v377 : BitVec 1 := Scalar.cmpi .slt v375 c0_i32_249
  let c0_i32_250 : BitVec 32 := 0#32
  let v378 : BitVec 1 := Scalar.cmpi .slt v374 c0_i32_250
  let v379 : BitVec 1 := Scalar.xori v377 v378
  let c0_i32_248 : BitVec 32 := 0#32
  let v376 : BitVec 1 := Scalar.cmpi .ne v375 c0_i32_248
  let v380 : BitVec 1 := Scalar.andi v379 v376
  let v381 : BitVec 32 := Scalar.addi v375 v374
  let v382 : BitVec 32 := Scalar.select v380 v381 v375
  let c14_i32_251 : BitVec 32 := 14#32
  let v383 : BitVec 32 := Scalar.minsi v382 c14_i32_251
  let c0_i32_1158 : BitVec 32 := 0#32
  let c0_i32_1159 : BitVec 32 := 0#32
  ![v383.toNat, 0, 0]
def k0_dev24 : Nat :=
  let c0_i32_1157 : BitVec 32 := 0#32
  let c8_i32_1155 : BitVec 32 := 8#32
  let c1_i32_1156 : BitVec 32 := 1#32
  let v1367 : BitVec 32 := Scalar.muli c8_i32_1155 c1_i32_1156
  let v1368 : BitVec 32 := Scalar.addi c0_i32_1157 v1367
  v1368.toNat
def k0_cond10 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_263 : BitVec 32 := 9#32
  let v400 : BitVec 1 := Scalar.cmpi .ne v2 c9_i32_263
  let v401 : BitVec 32 := Scalar.extui v400
  let c0_i32_264 : BitVec 32 := 0#32
  let v402 : BitVec 1 := Scalar.cmpi .ne v401 c0_i32_264
  v402

def k0_off19 (d0 : Dev nD) : Fin 1 → Nat :=
  let c9_i32_254 : BitVec 32 := 9#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v387 : BitVec 32 := Scalar.subi c9_i32_254 v2
  let c1_i32_255 : BitVec 32 := 1#32
  let v388 : BitVec 32 := Scalar.subi v387 c1_i32_255
  let c16_i32_256 : BitVec 32 := 16#32
  let c0_i32_257 : BitVec 32 := 0#32
  let v389 : BitVec 1 := Scalar.cmpi .eq c16_i32_256 c0_i32_257
  let c1_i32_258 : BitVec 32 := 1#32
  let v390 : BitVec 32 := Scalar.select v389 c1_i32_258 c16_i32_256
  let v391 : BitVec 32 := Scalar.remsi v388 v390
  let c0_i32_260 : BitVec 32 := 0#32
  let v393 : BitVec 1 := Scalar.cmpi .slt v391 c0_i32_260
  let c0_i32_261 : BitVec 32 := 0#32
  let v394 : BitVec 1 := Scalar.cmpi .slt v390 c0_i32_261
  let v395 : BitVec 1 := Scalar.xori v393 v394
  let c0_i32_259 : BitVec 32 := 0#32
  let v392 : BitVec 1 := Scalar.cmpi .ne v391 c0_i32_259
  let v396 : BitVec 1 := Scalar.andi v395 v392
  let v397 : BitVec 32 := Scalar.addi v391 v390
  let v398 : BitVec 32 := Scalar.select v396 v397 v391
  let c14_i32_262 : BitVec 32 := 14#32
  let v399 : BitVec 32 := Scalar.minsi v398 c14_i32_262
  ![v399.toNat]
def k0_off20 (d0 : Dev nD) : Fin 3 → Nat :=
  let c9_i32_254 : BitVec 32 := 9#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v387 : BitVec 32 := Scalar.subi c9_i32_254 v2
  let c1_i32_255 : BitVec 32 := 1#32
  let v388 : BitVec 32 := Scalar.subi v387 c1_i32_255
  let c16_i32_256 : BitVec 32 := 16#32
  let c0_i32_257 : BitVec 32 := 0#32
  let v389 : BitVec 1 := Scalar.cmpi .eq c16_i32_256 c0_i32_257
  let c1_i32_258 : BitVec 32 := 1#32
  let v390 : BitVec 32 := Scalar.select v389 c1_i32_258 c16_i32_256
  let v391 : BitVec 32 := Scalar.remsi v388 v390
  let c0_i32_260 : BitVec 32 := 0#32
  let v393 : BitVec 1 := Scalar.cmpi .slt v391 c0_i32_260
  let c0_i32_261 : BitVec 32 := 0#32
  let v394 : BitVec 1 := Scalar.cmpi .slt v390 c0_i32_261
  let v395 : BitVec 1 := Scalar.xori v393 v394
  let c0_i32_259 : BitVec 32 := 0#32
  let v392 : BitVec 1 := Scalar.cmpi .ne v391 c0_i32_259
  let v396 : BitVec 1 := Scalar.andi v395 v392
  let v397 : BitVec 32 := Scalar.addi v391 v390
  let v398 : BitVec 32 := Scalar.select v396 v397 v391
  let c14_i32_262 : BitVec 32 := 14#32
  let v399 : BitVec 32 := Scalar.minsi v398 c14_i32_262
  let c0_i32_1158 : BitVec 32 := 0#32
  let c0_i32_1159 : BitVec 32 := 0#32
  ![v399.toNat, 0, 0]
def k0_dev25 : Nat :=
  let c0_i32_1157 : BitVec 32 := 0#32
  let c9_i32_1155 : BitVec 32 := 9#32
  let c1_i32_1156 : BitVec 32 := 1#32
  let v1367 : BitVec 32 := Scalar.muli c9_i32_1155 c1_i32_1156
  let v1368 : BitVec 32 := Scalar.addi c0_i32_1157 v1367
  v1368.toNat
def k0_cond11 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_274 : BitVec 32 := 10#32
  let v416 : BitVec 1 := Scalar.cmpi .ne v2 c10_i32_274
  let v417 : BitVec 32 := Scalar.extui v416
  let c0_i32_275 : BitVec 32 := 0#32
  let v418 : BitVec 1 := Scalar.cmpi .ne v417 c0_i32_275
  v418

def k0_off21 (d0 : Dev nD) : Fin 1 → Nat :=
  let c10_i32_265 : BitVec 32 := 10#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v403 : BitVec 32 := Scalar.subi c10_i32_265 v2
  let c1_i32_266 : BitVec 32 := 1#32
  let v404 : BitVec 32 := Scalar.subi v403 c1_i32_266
  let c16_i32_267 : BitVec 32 := 16#32
  let c0_i32_268 : BitVec 32 := 0#32
  let v405 : BitVec 1 := Scalar.cmpi .eq c16_i32_267 c0_i32_268
  let c1_i32_269 : BitVec 32 := 1#32
  let v406 : BitVec 32 := Scalar.select v405 c1_i32_269 c16_i32_267
  let v407 : BitVec 32 := Scalar.remsi v404 v406
  let c0_i32_271 : BitVec 32 := 0#32
  let v409 : BitVec 1 := Scalar.cmpi .slt v407 c0_i32_271
  let c0_i32_272 : BitVec 32 := 0#32
  let v410 : BitVec 1 := Scalar.cmpi .slt v406 c0_i32_272
  let v411 : BitVec 1 := Scalar.xori v409 v410
  let c0_i32_270 : BitVec 32 := 0#32
  let v408 : BitVec 1 := Scalar.cmpi .ne v407 c0_i32_270
  let v412 : BitVec 1 := Scalar.andi v411 v408
  let v413 : BitVec 32 := Scalar.addi v407 v406
  let v414 : BitVec 32 := Scalar.select v412 v413 v407
  let c14_i32_273 : BitVec 32 := 14#32
  let v415 : BitVec 32 := Scalar.minsi v414 c14_i32_273
  ![v415.toNat]
def k0_off22 (d0 : Dev nD) : Fin 3 → Nat :=
  let c10_i32_265 : BitVec 32 := 10#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v403 : BitVec 32 := Scalar.subi c10_i32_265 v2
  let c1_i32_266 : BitVec 32 := 1#32
  let v404 : BitVec 32 := Scalar.subi v403 c1_i32_266
  let c16_i32_267 : BitVec 32 := 16#32
  let c0_i32_268 : BitVec 32 := 0#32
  let v405 : BitVec 1 := Scalar.cmpi .eq c16_i32_267 c0_i32_268
  let c1_i32_269 : BitVec 32 := 1#32
  let v406 : BitVec 32 := Scalar.select v405 c1_i32_269 c16_i32_267
  let v407 : BitVec 32 := Scalar.remsi v404 v406
  let c0_i32_271 : BitVec 32 := 0#32
  let v409 : BitVec 1 := Scalar.cmpi .slt v407 c0_i32_271
  let c0_i32_272 : BitVec 32 := 0#32
  let v410 : BitVec 1 := Scalar.cmpi .slt v406 c0_i32_272
  let v411 : BitVec 1 := Scalar.xori v409 v410
  let c0_i32_270 : BitVec 32 := 0#32
  let v408 : BitVec 1 := Scalar.cmpi .ne v407 c0_i32_270
  let v412 : BitVec 1 := Scalar.andi v411 v408
  let v413 : BitVec 32 := Scalar.addi v407 v406
  let v414 : BitVec 32 := Scalar.select v412 v413 v407
  let c14_i32_273 : BitVec 32 := 14#32
  let v415 : BitVec 32 := Scalar.minsi v414 c14_i32_273
  let c0_i32_1158 : BitVec 32 := 0#32
  let c0_i32_1159 : BitVec 32 := 0#32
  ![v415.toNat, 0, 0]
def k0_dev26 : Nat :=
  let c0_i32_1157 : BitVec 32 := 0#32
  let c10_i32_1155 : BitVec 32 := 10#32
  let c1_i32_1156 : BitVec 32 := 1#32
  let v1367 : BitVec 32 := Scalar.muli c10_i32_1155 c1_i32_1156
  let v1368 : BitVec 32 := Scalar.addi c0_i32_1157 v1367
  v1368.toNat
def k0_cond12 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_285 : BitVec 32 := 11#32
  let v432 : BitVec 1 := Scalar.cmpi .ne v2 c11_i32_285
  let v433 : BitVec 32 := Scalar.extui v432
  let c0_i32_286 : BitVec 32 := 0#32
  let v434 : BitVec 1 := Scalar.cmpi .ne v433 c0_i32_286
  v434

def k0_off23 (d0 : Dev nD) : Fin 1 → Nat :=
  let c11_i32_276 : BitVec 32 := 11#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v419 : BitVec 32 := Scalar.subi c11_i32_276 v2
  let c1_i32_277 : BitVec 32 := 1#32
  let v420 : BitVec 32 := Scalar.subi v419 c1_i32_277
  let c16_i32_278 : BitVec 32 := 16#32
  let c0_i32_279 : BitVec 32 := 0#32
  let v421 : BitVec 1 := Scalar.cmpi .eq c16_i32_278 c0_i32_279
  let c1_i32_280 : BitVec 32 := 1#32
  let v422 : BitVec 32 := Scalar.select v421 c1_i32_280 c16_i32_278
  let v423 : BitVec 32 := Scalar.remsi v420 v422
  let c0_i32_282 : BitVec 32 := 0#32
  let v425 : BitVec 1 := Scalar.cmpi .slt v423 c0_i32_282
  let c0_i32_283 : BitVec 32 := 0#32
  let v426 : BitVec 1 := Scalar.cmpi .slt v422 c0_i32_283
  let v427 : BitVec 1 := Scalar.xori v425 v426
  let c0_i32_281 : BitVec 32 := 0#32
  let v424 : BitVec 1 := Scalar.cmpi .ne v423 c0_i32_281
  let v428 : BitVec 1 := Scalar.andi v427 v424
  let v429 : BitVec 32 := Scalar.addi v423 v422
  let v430 : BitVec 32 := Scalar.select v428 v429 v423
  let c14_i32_284 : BitVec 32 := 14#32
  let v431 : BitVec 32 := Scalar.minsi v430 c14_i32_284
  ![v431.toNat]
def k0_off24 (d0 : Dev nD) : Fin 3 → Nat :=
  let c11_i32_276 : BitVec 32 := 11#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v419 : BitVec 32 := Scalar.subi c11_i32_276 v2
  let c1_i32_277 : BitVec 32 := 1#32
  let v420 : BitVec 32 := Scalar.subi v419 c1_i32_277
  let c16_i32_278 : BitVec 32 := 16#32
  let c0_i32_279 : BitVec 32 := 0#32
  let v421 : BitVec 1 := Scalar.cmpi .eq c16_i32_278 c0_i32_279
  let c1_i32_280 : BitVec 32 := 1#32
  let v422 : BitVec 32 := Scalar.select v421 c1_i32_280 c16_i32_278
  let v423 : BitVec 32 := Scalar.remsi v420 v422
  let c0_i32_282 : BitVec 32 := 0#32
  let v425 : BitVec 1 := Scalar.cmpi .slt v423 c0_i32_282
  let c0_i32_283 : BitVec 32 := 0#32
  let v426 : BitVec 1 := Scalar.cmpi .slt v422 c0_i32_283
  let v427 : BitVec 1 := Scalar.xori v425 v426
  let c0_i32_281 : BitVec 32 := 0#32
  let v424 : BitVec 1 := Scalar.cmpi .ne v423 c0_i32_281
  let v428 : BitVec 1 := Scalar.andi v427 v424
  let v429 : BitVec 32 := Scalar.addi v423 v422
  let v430 : BitVec 32 := Scalar.select v428 v429 v423
  let c14_i32_284 : BitVec 32 := 14#32
  let v431 : BitVec 32 := Scalar.minsi v430 c14_i32_284
  let c0_i32_1158 : BitVec 32 := 0#32
  let c0_i32_1159 : BitVec 32 := 0#32
  ![v431.toNat, 0, 0]
def k0_dev27 : Nat :=
  let c0_i32_1157 : BitVec 32 := 0#32
  let c11_i32_1155 : BitVec 32 := 11#32
  let c1_i32_1156 : BitVec 32 := 1#32
  let v1367 : BitVec 32 := Scalar.muli c11_i32_1155 c1_i32_1156
  let v1368 : BitVec 32 := Scalar.addi c0_i32_1157 v1367
  v1368.toNat
def k0_cond13 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_300 : BitVec 32 := 12#32
  let v460 : BitVec 1 := Scalar.cmpi .ne v2 c12_i32_300
  let v461 : BitVec 32 := Scalar.extui v460
  let c0_i32_301 : BitVec 32 := 0#32
  let v462 : BitVec 1 := Scalar.cmpi .ne v461 c0_i32_301
  v462

def k0_off25 (d0 : Dev nD) : Fin 1 → Nat :=
  let c12_i32_291 : BitVec 32 := 12#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v447 : BitVec 32 := Scalar.subi c12_i32_291 v2
  let c1_i32_292 : BitVec 32 := 1#32
  let v448 : BitVec 32 := Scalar.subi v447 c1_i32_292
  let c16_i32_293 : BitVec 32 := 16#32
  let c0_i32_294 : BitVec 32 := 0#32
  let v449 : BitVec 1 := Scalar.cmpi .eq c16_i32_293 c0_i32_294
  let c1_i32_295 : BitVec 32 := 1#32
  let v450 : BitVec 32 := Scalar.select v449 c1_i32_295 c16_i32_293
  let v451 : BitVec 32 := Scalar.remsi v448 v450
  let c0_i32_297 : BitVec 32 := 0#32
  let v453 : BitVec 1 := Scalar.cmpi .slt v451 c0_i32_297
  let c0_i32_298 : BitVec 32 := 0#32
  let v454 : BitVec 1 := Scalar.cmpi .slt v450 c0_i32_298
  let v455 : BitVec 1 := Scalar.xori v453 v454
  let c0_i32_296 : BitVec 32 := 0#32
  let v452 : BitVec 1 := Scalar.cmpi .ne v451 c0_i32_296
  let v456 : BitVec 1 := Scalar.andi v455 v452
  let v457 : BitVec 32 := Scalar.addi v451 v450
  let v458 : BitVec 32 := Scalar.select v456 v457 v451
  let c14_i32_299 : BitVec 32 := 14#32
  let v459 : BitVec 32 := Scalar.minsi v458 c14_i32_299
  ![v459.toNat]
def k0_off26 (d0 : Dev nD) : Fin 3 → Nat :=
  let c12_i32_291 : BitVec 32 := 12#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v447 : BitVec 32 := Scalar.subi c12_i32_291 v2
  let c1_i32_292 : BitVec 32 := 1#32
  let v448 : BitVec 32 := Scalar.subi v447 c1_i32_292
  let c16_i32_293 : BitVec 32 := 16#32
  let c0_i32_294 : BitVec 32 := 0#32
  let v449 : BitVec 1 := Scalar.cmpi .eq c16_i32_293 c0_i32_294
  let c1_i32_295 : BitVec 32 := 1#32
  let v450 : BitVec 32 := Scalar.select v449 c1_i32_295 c16_i32_293
  let v451 : BitVec 32 := Scalar.remsi v448 v450
  let c0_i32_297 : BitVec 32 := 0#32
  let v453 : BitVec 1 := Scalar.cmpi .slt v451 c0_i32_297
  let c0_i32_298 : BitVec 32 := 0#32
  let v454 : BitVec 1 := Scalar.cmpi .slt v450 c0_i32_298
  let v455 : BitVec 1 := Scalar.xori v453 v454
  let c0_i32_296 : BitVec 32 := 0#32
  let v452 : BitVec 1 := Scalar.cmpi .ne v451 c0_i32_296
  let v456 : BitVec 1 := Scalar.andi v455 v452
  let v457 : BitVec 32 := Scalar.addi v451 v450
  let v458 : BitVec 32 := Scalar.select v456 v457 v451
  let c14_i32_299 : BitVec 32 := 14#32
  let v459 : BitVec 32 := Scalar.minsi v458 c14_i32_299
  let c0_i32_1158 : BitVec 32 := 0#32
  let c0_i32_1159 : BitVec 32 := 0#32
  ![v459.toNat, 0, 0]
def k0_dev28 : Nat :=
  let c0_i32_1157 : BitVec 32 := 0#32
  let c12_i32_1155 : BitVec 32 := 12#32
  let c1_i32_1156 : BitVec 32 := 1#32
  let v1367 : BitVec 32 := Scalar.muli c12_i32_1155 c1_i32_1156
  let v1368 : BitVec 32 := Scalar.addi c0_i32_1157 v1367
  v1368.toNat
def k0_cond14 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_311 : BitVec 32 := 13#32
  let v476 : BitVec 1 := Scalar.cmpi .ne v2 c13_i32_311
  let v477 : BitVec 32 := Scalar.extui v476
  let c0_i32_312 : BitVec 32 := 0#32
  let v478 : BitVec 1 := Scalar.cmpi .ne v477 c0_i32_312
  v478

def k0_off27 (d0 : Dev nD) : Fin 1 → Nat :=
  let c13_i32_302 : BitVec 32 := 13#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v463 : BitVec 32 := Scalar.subi c13_i32_302 v2
  let c1_i32_303 : BitVec 32 := 1#32
  let v464 : BitVec 32 := Scalar.subi v463 c1_i32_303
  let c16_i32_304 : BitVec 32 := 16#32
  let c0_i32_305 : BitVec 32 := 0#32
  let v465 : BitVec 1 := Scalar.cmpi .eq c16_i32_304 c0_i32_305
  let c1_i32_306 : BitVec 32 := 1#32
  let v466 : BitVec 32 := Scalar.select v465 c1_i32_306 c16_i32_304
  let v467 : BitVec 32 := Scalar.remsi v464 v466
  let c0_i32_308 : BitVec 32 := 0#32
  let v469 : BitVec 1 := Scalar.cmpi .slt v467 c0_i32_308
  let c0_i32_309 : BitVec 32 := 0#32
  let v470 : BitVec 1 := Scalar.cmpi .slt v466 c0_i32_309
  let v471 : BitVec 1 := Scalar.xori v469 v470
  let c0_i32_307 : BitVec 32 := 0#32
  let v468 : BitVec 1 := Scalar.cmpi .ne v467 c0_i32_307
  let v472 : BitVec 1 := Scalar.andi v471 v468
  let v473 : BitVec 32 := Scalar.addi v467 v466
  let v474 : BitVec 32 := Scalar.select v472 v473 v467
  let c14_i32_310 : BitVec 32 := 14#32
  let v475 : BitVec 32 := Scalar.minsi v474 c14_i32_310
  ![v475.toNat]
def k0_off28 (d0 : Dev nD) : Fin 3 → Nat :=
  let c13_i32_302 : BitVec 32 := 13#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v463 : BitVec 32 := Scalar.subi c13_i32_302 v2
  let c1_i32_303 : BitVec 32 := 1#32
  let v464 : BitVec 32 := Scalar.subi v463 c1_i32_303
  let c16_i32_304 : BitVec 32 := 16#32
  let c0_i32_305 : BitVec 32 := 0#32
  let v465 : BitVec 1 := Scalar.cmpi .eq c16_i32_304 c0_i32_305
  let c1_i32_306 : BitVec 32 := 1#32
  let v466 : BitVec 32 := Scalar.select v465 c1_i32_306 c16_i32_304
  let v467 : BitVec 32 := Scalar.remsi v464 v466
  let c0_i32_308 : BitVec 32 := 0#32
  let v469 : BitVec 1 := Scalar.cmpi .slt v467 c0_i32_308
  let c0_i32_309 : BitVec 32 := 0#32
  let v470 : BitVec 1 := Scalar.cmpi .slt v466 c0_i32_309
  let v471 : BitVec 1 := Scalar.xori v469 v470
  let c0_i32_307 : BitVec 32 := 0#32
  let v468 : BitVec 1 := Scalar.cmpi .ne v467 c0_i32_307
  let v472 : BitVec 1 := Scalar.andi v471 v468
  let v473 : BitVec 32 := Scalar.addi v467 v466
  let v474 : BitVec 32 := Scalar.select v472 v473 v467
  let c14_i32_310 : BitVec 32 := 14#32
  let v475 : BitVec 32 := Scalar.minsi v474 c14_i32_310
  let c0_i32_1158 : BitVec 32 := 0#32
  let c0_i32_1159 : BitVec 32 := 0#32
  ![v475.toNat, 0, 0]
def k0_dev29 : Nat :=
  let c0_i32_1157 : BitVec 32 := 0#32
  let c13_i32_1155 : BitVec 32 := 13#32
  let c1_i32_1156 : BitVec 32 := 1#32
  let v1367 : BitVec 32 := Scalar.muli c13_i32_1155 c1_i32_1156
  let v1368 : BitVec 32 := Scalar.addi c0_i32_1157 v1367
  v1368.toNat
def k0_cond15 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_322 : BitVec 32 := 14#32
  let v492 : BitVec 1 := Scalar.cmpi .ne v2 c14_i32_322
  let v493 : BitVec 32 := Scalar.extui v492
  let c0_i32_323 : BitVec 32 := 0#32
  let v494 : BitVec 1 := Scalar.cmpi .ne v493 c0_i32_323
  v494

def k0_off29 (d0 : Dev nD) : Fin 1 → Nat :=
  let c14_i32_313 : BitVec 32 := 14#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v479 : BitVec 32 := Scalar.subi c14_i32_313 v2
  let c1_i32_314 : BitVec 32 := 1#32
  let v480 : BitVec 32 := Scalar.subi v479 c1_i32_314
  let c16_i32_315 : BitVec 32 := 16#32
  let c0_i32_316 : BitVec 32 := 0#32
  let v481 : BitVec 1 := Scalar.cmpi .eq c16_i32_315 c0_i32_316
  let c1_i32_317 : BitVec 32 := 1#32
  let v482 : BitVec 32 := Scalar.select v481 c1_i32_317 c16_i32_315
  let v483 : BitVec 32 := Scalar.remsi v480 v482
  let c0_i32_319 : BitVec 32 := 0#32
  let v485 : BitVec 1 := Scalar.cmpi .slt v483 c0_i32_319
  let c0_i32_320 : BitVec 32 := 0#32
  let v486 : BitVec 1 := Scalar.cmpi .slt v482 c0_i32_320
  let v487 : BitVec 1 := Scalar.xori v485 v486
  let c0_i32_318 : BitVec 32 := 0#32
  let v484 : BitVec 1 := Scalar.cmpi .ne v483 c0_i32_318
  let v488 : BitVec 1 := Scalar.andi v487 v484
  let v489 : BitVec 32 := Scalar.addi v483 v482
  let v490 : BitVec 32 := Scalar.select v488 v489 v483
  let c14_i32_321 : BitVec 32 := 14#32
  let v491 : BitVec 32 := Scalar.minsi v490 c14_i32_321
  ![v491.toNat]
def k0_off30 (d0 : Dev nD) : Fin 3 → Nat :=
  let c14_i32_313 : BitVec 32 := 14#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v479 : BitVec 32 := Scalar.subi c14_i32_313 v2
  let c1_i32_314 : BitVec 32 := 1#32
  let v480 : BitVec 32 := Scalar.subi v479 c1_i32_314
  let c16_i32_315 : BitVec 32 := 16#32
  let c0_i32_316 : BitVec 32 := 0#32
  let v481 : BitVec 1 := Scalar.cmpi .eq c16_i32_315 c0_i32_316
  let c1_i32_317 : BitVec 32 := 1#32
  let v482 : BitVec 32 := Scalar.select v481 c1_i32_317 c16_i32_315
  let v483 : BitVec 32 := Scalar.remsi v480 v482
  let c0_i32_319 : BitVec 32 := 0#32
  let v485 : BitVec 1 := Scalar.cmpi .slt v483 c0_i32_319
  let c0_i32_320 : BitVec 32 := 0#32
  let v486 : BitVec 1 := Scalar.cmpi .slt v482 c0_i32_320
  let v487 : BitVec 1 := Scalar.xori v485 v486
  let c0_i32_318 : BitVec 32 := 0#32
  let v484 : BitVec 1 := Scalar.cmpi .ne v483 c0_i32_318
  let v488 : BitVec 1 := Scalar.andi v487 v484
  let v489 : BitVec 32 := Scalar.addi v483 v482
  let v490 : BitVec 32 := Scalar.select v488 v489 v483
  let c14_i32_321 : BitVec 32 := 14#32
  let v491 : BitVec 32 := Scalar.minsi v490 c14_i32_321
  let c0_i32_1158 : BitVec 32 := 0#32
  let c0_i32_1159 : BitVec 32 := 0#32
  ![v491.toNat, 0, 0]
def k0_dev30 : Nat :=
  let c0_i32_1157 : BitVec 32 := 0#32
  let c14_i32_1155 : BitVec 32 := 14#32
  let c1_i32_1156 : BitVec 32 := 1#32
  let v1367 : BitVec 32 := Scalar.muli c14_i32_1155 c1_i32_1156
  let v1368 : BitVec 32 := Scalar.addi c0_i32_1157 v1367
  v1368.toNat
def k0_cond16 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_333 : BitVec 32 := 15#32
  let v508 : BitVec 1 := Scalar.cmpi .ne v2 c15_i32_333
  let v509 : BitVec 32 := Scalar.extui v508
  let c0_i32_334 : BitVec 32 := 0#32
  let v510 : BitVec 1 := Scalar.cmpi .ne v509 c0_i32_334
  v510

def k0_off31 (d0 : Dev nD) : Fin 1 → Nat :=
  let c15_i32_324 : BitVec 32 := 15#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v495 : BitVec 32 := Scalar.subi c15_i32_324 v2
  let c1_i32_325 : BitVec 32 := 1#32
  let v496 : BitVec 32 := Scalar.subi v495 c1_i32_325
  let c16_i32_326 : BitVec 32 := 16#32
  let c0_i32_327 : BitVec 32 := 0#32
  let v497 : BitVec 1 := Scalar.cmpi .eq c16_i32_326 c0_i32_327
  let c1_i32_328 : BitVec 32 := 1#32
  let v498 : BitVec 32 := Scalar.select v497 c1_i32_328 c16_i32_326
  let v499 : BitVec 32 := Scalar.remsi v496 v498
  let c0_i32_330 : BitVec 32 := 0#32
  let v501 : BitVec 1 := Scalar.cmpi .slt v499 c0_i32_330
  let c0_i32_331 : BitVec 32 := 0#32
  let v502 : BitVec 1 := Scalar.cmpi .slt v498 c0_i32_331
  let v503 : BitVec 1 := Scalar.xori v501 v502
  let c0_i32_329 : BitVec 32 := 0#32
  let v500 : BitVec 1 := Scalar.cmpi .ne v499 c0_i32_329
  let v504 : BitVec 1 := Scalar.andi v503 v500
  let v505 : BitVec 32 := Scalar.addi v499 v498
  let v506 : BitVec 32 := Scalar.select v504 v505 v499
  let c14_i32_332 : BitVec 32 := 14#32
  let v507 : BitVec 32 := Scalar.minsi v506 c14_i32_332
  ![v507.toNat]
def k0_off32 (d0 : Dev nD) : Fin 3 → Nat :=
  let c15_i32_324 : BitVec 32 := 15#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v495 : BitVec 32 := Scalar.subi c15_i32_324 v2
  let c1_i32_325 : BitVec 32 := 1#32
  let v496 : BitVec 32 := Scalar.subi v495 c1_i32_325
  let c16_i32_326 : BitVec 32 := 16#32
  let c0_i32_327 : BitVec 32 := 0#32
  let v497 : BitVec 1 := Scalar.cmpi .eq c16_i32_326 c0_i32_327
  let c1_i32_328 : BitVec 32 := 1#32
  let v498 : BitVec 32 := Scalar.select v497 c1_i32_328 c16_i32_326
  let v499 : BitVec 32 := Scalar.remsi v496 v498
  let c0_i32_330 : BitVec 32 := 0#32
  let v501 : BitVec 1 := Scalar.cmpi .slt v499 c0_i32_330
  let c0_i32_331 : BitVec 32 := 0#32
  let v502 : BitVec 1 := Scalar.cmpi .slt v498 c0_i32_331
  let v503 : BitVec 1 := Scalar.xori v501 v502
  let c0_i32_329 : BitVec 32 := 0#32
  let v500 : BitVec 1 := Scalar.cmpi .ne v499 c0_i32_329
  let v504 : BitVec 1 := Scalar.andi v503 v500
  let v505 : BitVec 32 := Scalar.addi v499 v498
  let v506 : BitVec 32 := Scalar.select v504 v505 v499
  let c14_i32_332 : BitVec 32 := 14#32
  let v507 : BitVec 32 := Scalar.minsi v506 c14_i32_332
  let c0_i32_1158 : BitVec 32 := 0#32
  let c0_i32_1159 : BitVec 32 := 0#32
  ![v507.toNat, 0, 0]
def k0_dev31 : Nat :=
  let c0_i32_1157 : BitVec 32 := 0#32
  let c15_i32_1155 : BitVec 32 := 15#32
  let c1_i32_1156 : BitVec 32 := 1#32
  let v1367 : BitVec 32 := Scalar.muli c15_i32_1155 c1_i32_1156
  let v1368 : BitVec 32 := Scalar.addi c0_i32_1157 v1367
  v1368.toNat
def k0_off33 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c48_i32 : BitVec 32 := 48#32
  let v631 : BitVec 32 := Scalar.muli v2 c48_i32
  let v632 : Index := Scalar.indexCast v631
  let c0_485 : Index := 0#32
  ![v632.toNat, 0]
def k0_off34 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c48_i32 : BitVec 32 := 48#32
  let v631 : BitVec 32 := Scalar.muli v2 c48_i32
  let c0_i32_502 : BitVec 32 := 0#32
  ![v631.toNat, 0]
def k0_dev32 (d0 : Dev nD) : Nat :=
  let c0_i32_501 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_491 : BitVec 32 := 1#32
  let v644 : BitVec 32 := Scalar.addi v2 c1_i32_491
  let c16_i32_492 : BitVec 32 := 16#32
  let c0_i32_493 : BitVec 32 := 0#32
  let v645 : BitVec 1 := Scalar.cmpi .eq c16_i32_492 c0_i32_493
  let c1_i32_494 : BitVec 32 := 1#32
  let v646 : BitVec 32 := Scalar.select v645 c1_i32_494 c16_i32_492
  let v647 : BitVec 32 := Scalar.remsi v644 v646
  let c0_i32_496 : BitVec 32 := 0#32
  let v649 : BitVec 1 := Scalar.cmpi .slt v647 c0_i32_496
  let c0_i32_497 : BitVec 32 := 0#32
  let v650 : BitVec 1 := Scalar.cmpi .slt v646 c0_i32_497
  let v651 : BitVec 1 := Scalar.xori v649 v650
  let c0_i32_495 : BitVec 32 := 0#32
  let v648 : BitVec 1 := Scalar.cmpi .ne v647 c0_i32_495
  let v652 : BitVec 1 := Scalar.andi v651 v648
  let v653 : BitVec 32 := Scalar.addi v647 v646
  let v654 : BitVec 32 := Scalar.select v652 v653 v647
  let c1_i32_500 : BitVec 32 := 1#32
  let v655 : BitVec 32 := Scalar.muli v654 c1_i32_500
  let v656 : BitVec 32 := Scalar.addi c0_i32_501 v655
  v656.toNat
def k0_dev33 (d0 : Dev nD) : Nat :=
  let c0_i32_514 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_504 : BitVec 32 := 2#32
  let v663 : BitVec 32 := Scalar.addi v2 c2_i32_504
  let c16_i32_505 : BitVec 32 := 16#32
  let c0_i32_506 : BitVec 32 := 0#32
  let v664 : BitVec 1 := Scalar.cmpi .eq c16_i32_505 c0_i32_506
  let c1_i32_507 : BitVec 32 := 1#32
  let v665 : BitVec 32 := Scalar.select v664 c1_i32_507 c16_i32_505
  let v666 : BitVec 32 := Scalar.remsi v663 v665
  let c0_i32_509 : BitVec 32 := 0#32
  let v668 : BitVec 1 := Scalar.cmpi .slt v666 c0_i32_509
  let c0_i32_510 : BitVec 32 := 0#32
  let v669 : BitVec 1 := Scalar.cmpi .slt v665 c0_i32_510
  let v670 : BitVec 1 := Scalar.xori v668 v669
  let c0_i32_508 : BitVec 32 := 0#32
  let v667 : BitVec 1 := Scalar.cmpi .ne v666 c0_i32_508
  let v671 : BitVec 1 := Scalar.andi v670 v667
  let v672 : BitVec 32 := Scalar.addi v666 v665
  let v673 : BitVec 32 := Scalar.select v671 v672 v666
  let c1_i32_513 : BitVec 32 := 1#32
  let v674 : BitVec 32 := Scalar.muli v673 c1_i32_513
  let v675 : BitVec 32 := Scalar.addi c0_i32_514 v674
  v675.toNat
def k0_dev34 (d0 : Dev nD) : Nat :=
  let c0_i32_527 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_517 : BitVec 32 := 3#32
  let v682 : BitVec 32 := Scalar.addi v2 c3_i32_517
  let c16_i32_518 : BitVec 32 := 16#32
  let c0_i32_519 : BitVec 32 := 0#32
  let v683 : BitVec 1 := Scalar.cmpi .eq c16_i32_518 c0_i32_519
  let c1_i32_520 : BitVec 32 := 1#32
  let v684 : BitVec 32 := Scalar.select v683 c1_i32_520 c16_i32_518
  let v685 : BitVec 32 := Scalar.remsi v682 v684
  let c0_i32_522 : BitVec 32 := 0#32
  let v687 : BitVec 1 := Scalar.cmpi .slt v685 c0_i32_522
  let c0_i32_523 : BitVec 32 := 0#32
  let v688 : BitVec 1 := Scalar.cmpi .slt v684 c0_i32_523
  let v689 : BitVec 1 := Scalar.xori v687 v688
  let c0_i32_521 : BitVec 32 := 0#32
  let v686 : BitVec 1 := Scalar.cmpi .ne v685 c0_i32_521
  let v690 : BitVec 1 := Scalar.andi v689 v686
  let v691 : BitVec 32 := Scalar.addi v685 v684
  let v692 : BitVec 32 := Scalar.select v690 v691 v685
  let c1_i32_526 : BitVec 32 := 1#32
  let v693 : BitVec 32 := Scalar.muli v692 c1_i32_526
  let v694 : BitVec 32 := Scalar.addi c0_i32_527 v693
  v694.toNat
def k0_dev35 (d0 : Dev nD) : Nat :=
  let c0_i32_540 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_530 : BitVec 32 := 4#32
  let v701 : BitVec 32 := Scalar.addi v2 c4_i32_530
  let c16_i32_531 : BitVec 32 := 16#32
  let c0_i32_532 : BitVec 32 := 0#32
  let v702 : BitVec 1 := Scalar.cmpi .eq c16_i32_531 c0_i32_532
  let c1_i32_533 : BitVec 32 := 1#32
  let v703 : BitVec 32 := Scalar.select v702 c1_i32_533 c16_i32_531
  let v704 : BitVec 32 := Scalar.remsi v701 v703
  let c0_i32_535 : BitVec 32 := 0#32
  let v706 : BitVec 1 := Scalar.cmpi .slt v704 c0_i32_535
  let c0_i32_536 : BitVec 32 := 0#32
  let v707 : BitVec 1 := Scalar.cmpi .slt v703 c0_i32_536
  let v708 : BitVec 1 := Scalar.xori v706 v707
  let c0_i32_534 : BitVec 32 := 0#32
  let v705 : BitVec 1 := Scalar.cmpi .ne v704 c0_i32_534
  let v709 : BitVec 1 := Scalar.andi v708 v705
  let v710 : BitVec 32 := Scalar.addi v704 v703
  let v711 : BitVec 32 := Scalar.select v709 v710 v704
  let c1_i32_539 : BitVec 32 := 1#32
  let v712 : BitVec 32 := Scalar.muli v711 c1_i32_539
  let v713 : BitVec 32 := Scalar.addi c0_i32_540 v712
  v713.toNat
def k0_dev36 (d0 : Dev nD) : Nat :=
  let c0_i32_553 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_543 : BitVec 32 := 5#32
  let v720 : BitVec 32 := Scalar.addi v2 c5_i32_543
  let c16_i32_544 : BitVec 32 := 16#32
  let c0_i32_545 : BitVec 32 := 0#32
  let v721 : BitVec 1 := Scalar.cmpi .eq c16_i32_544 c0_i32_545
  let c1_i32_546 : BitVec 32 := 1#32
  let v722 : BitVec 32 := Scalar.select v721 c1_i32_546 c16_i32_544
  let v723 : BitVec 32 := Scalar.remsi v720 v722
  let c0_i32_548 : BitVec 32 := 0#32
  let v725 : BitVec 1 := Scalar.cmpi .slt v723 c0_i32_548
  let c0_i32_549 : BitVec 32 := 0#32
  let v726 : BitVec 1 := Scalar.cmpi .slt v722 c0_i32_549
  let v727 : BitVec 1 := Scalar.xori v725 v726
  let c0_i32_547 : BitVec 32 := 0#32
  let v724 : BitVec 1 := Scalar.cmpi .ne v723 c0_i32_547
  let v728 : BitVec 1 := Scalar.andi v727 v724
  let v729 : BitVec 32 := Scalar.addi v723 v722
  let v730 : BitVec 32 := Scalar.select v728 v729 v723
  let c1_i32_552 : BitVec 32 := 1#32
  let v731 : BitVec 32 := Scalar.muli v730 c1_i32_552
  let v732 : BitVec 32 := Scalar.addi c0_i32_553 v731
  v732.toNat
def k0_dev37 (d0 : Dev nD) : Nat :=
  let c0_i32_566 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_556 : BitVec 32 := 6#32
  let v739 : BitVec 32 := Scalar.addi v2 c6_i32_556
  let c16_i32_557 : BitVec 32 := 16#32
  let c0_i32_558 : BitVec 32 := 0#32
  let v740 : BitVec 1 := Scalar.cmpi .eq c16_i32_557 c0_i32_558
  let c1_i32_559 : BitVec 32 := 1#32
  let v741 : BitVec 32 := Scalar.select v740 c1_i32_559 c16_i32_557
  let v742 : BitVec 32 := Scalar.remsi v739 v741
  let c0_i32_561 : BitVec 32 := 0#32
  let v744 : BitVec 1 := Scalar.cmpi .slt v742 c0_i32_561
  let c0_i32_562 : BitVec 32 := 0#32
  let v745 : BitVec 1 := Scalar.cmpi .slt v741 c0_i32_562
  let v746 : BitVec 1 := Scalar.xori v744 v745
  let c0_i32_560 : BitVec 32 := 0#32
  let v743 : BitVec 1 := Scalar.cmpi .ne v742 c0_i32_560
  let v747 : BitVec 1 := Scalar.andi v746 v743
  let v748 : BitVec 32 := Scalar.addi v742 v741
  let v749 : BitVec 32 := Scalar.select v747 v748 v742
  let c1_i32_565 : BitVec 32 := 1#32
  let v750 : BitVec 32 := Scalar.muli v749 c1_i32_565
  let v751 : BitVec 32 := Scalar.addi c0_i32_566 v750
  v751.toNat
def k0_dev38 (d0 : Dev nD) : Nat :=
  let c0_i32_579 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_569 : BitVec 32 := 7#32
  let v758 : BitVec 32 := Scalar.addi v2 c7_i32_569
  let c16_i32_570 : BitVec 32 := 16#32
  let c0_i32_571 : BitVec 32 := 0#32
  let v759 : BitVec 1 := Scalar.cmpi .eq c16_i32_570 c0_i32_571
  let c1_i32_572 : BitVec 32 := 1#32
  let v760 : BitVec 32 := Scalar.select v759 c1_i32_572 c16_i32_570
  let v761 : BitVec 32 := Scalar.remsi v758 v760
  let c0_i32_574 : BitVec 32 := 0#32
  let v763 : BitVec 1 := Scalar.cmpi .slt v761 c0_i32_574
  let c0_i32_575 : BitVec 32 := 0#32
  let v764 : BitVec 1 := Scalar.cmpi .slt v760 c0_i32_575
  let v765 : BitVec 1 := Scalar.xori v763 v764
  let c0_i32_573 : BitVec 32 := 0#32
  let v762 : BitVec 1 := Scalar.cmpi .ne v761 c0_i32_573
  let v766 : BitVec 1 := Scalar.andi v765 v762
  let v767 : BitVec 32 := Scalar.addi v761 v760
  let v768 : BitVec 32 := Scalar.select v766 v767 v761
  let c1_i32_578 : BitVec 32 := 1#32
  let v769 : BitVec 32 := Scalar.muli v768 c1_i32_578
  let v770 : BitVec 32 := Scalar.addi c0_i32_579 v769
  v770.toNat
def k0_dev39 (d0 : Dev nD) : Nat :=
  let c0_i32_592 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_582 : BitVec 32 := 8#32
  let v777 : BitVec 32 := Scalar.addi v2 c8_i32_582
  let c16_i32_583 : BitVec 32 := 16#32
  let c0_i32_584 : BitVec 32 := 0#32
  let v778 : BitVec 1 := Scalar.cmpi .eq c16_i32_583 c0_i32_584
  let c1_i32_585 : BitVec 32 := 1#32
  let v779 : BitVec 32 := Scalar.select v778 c1_i32_585 c16_i32_583
  let v780 : BitVec 32 := Scalar.remsi v777 v779
  let c0_i32_587 : BitVec 32 := 0#32
  let v782 : BitVec 1 := Scalar.cmpi .slt v780 c0_i32_587
  let c0_i32_588 : BitVec 32 := 0#32
  let v783 : BitVec 1 := Scalar.cmpi .slt v779 c0_i32_588
  let v784 : BitVec 1 := Scalar.xori v782 v783
  let c0_i32_586 : BitVec 32 := 0#32
  let v781 : BitVec 1 := Scalar.cmpi .ne v780 c0_i32_586
  let v785 : BitVec 1 := Scalar.andi v784 v781
  let v786 : BitVec 32 := Scalar.addi v780 v779
  let v787 : BitVec 32 := Scalar.select v785 v786 v780
  let c1_i32_591 : BitVec 32 := 1#32
  let v788 : BitVec 32 := Scalar.muli v787 c1_i32_591
  let v789 : BitVec 32 := Scalar.addi c0_i32_592 v788
  v789.toNat
def k0_dev40 (d0 : Dev nD) : Nat :=
  let c0_i32_605 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_595 : BitVec 32 := 9#32
  let v796 : BitVec 32 := Scalar.addi v2 c9_i32_595
  let c16_i32_596 : BitVec 32 := 16#32
  let c0_i32_597 : BitVec 32 := 0#32
  let v797 : BitVec 1 := Scalar.cmpi .eq c16_i32_596 c0_i32_597
  let c1_i32_598 : BitVec 32 := 1#32
  let v798 : BitVec 32 := Scalar.select v797 c1_i32_598 c16_i32_596
  let v799 : BitVec 32 := Scalar.remsi v796 v798
  let c0_i32_600 : BitVec 32 := 0#32
  let v801 : BitVec 1 := Scalar.cmpi .slt v799 c0_i32_600
  let c0_i32_601 : BitVec 32 := 0#32
  let v802 : BitVec 1 := Scalar.cmpi .slt v798 c0_i32_601
  let v803 : BitVec 1 := Scalar.xori v801 v802
  let c0_i32_599 : BitVec 32 := 0#32
  let v800 : BitVec 1 := Scalar.cmpi .ne v799 c0_i32_599
  let v804 : BitVec 1 := Scalar.andi v803 v800
  let v805 : BitVec 32 := Scalar.addi v799 v798
  let v806 : BitVec 32 := Scalar.select v804 v805 v799
  let c1_i32_604 : BitVec 32 := 1#32
  let v807 : BitVec 32 := Scalar.muli v806 c1_i32_604
  let v808 : BitVec 32 := Scalar.addi c0_i32_605 v807
  v808.toNat
def k0_dev41 (d0 : Dev nD) : Nat :=
  let c0_i32_618 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_608 : BitVec 32 := 10#32
  let v815 : BitVec 32 := Scalar.addi v2 c10_i32_608
  let c16_i32_609 : BitVec 32 := 16#32
  let c0_i32_610 : BitVec 32 := 0#32
  let v816 : BitVec 1 := Scalar.cmpi .eq c16_i32_609 c0_i32_610
  let c1_i32_611 : BitVec 32 := 1#32
  let v817 : BitVec 32 := Scalar.select v816 c1_i32_611 c16_i32_609
  let v818 : BitVec 32 := Scalar.remsi v815 v817
  let c0_i32_613 : BitVec 32 := 0#32
  let v820 : BitVec 1 := Scalar.cmpi .slt v818 c0_i32_613
  let c0_i32_614 : BitVec 32 := 0#32
  let v821 : BitVec 1 := Scalar.cmpi .slt v817 c0_i32_614
  let v822 : BitVec 1 := Scalar.xori v820 v821
  let c0_i32_612 : BitVec 32 := 0#32
  let v819 : BitVec 1 := Scalar.cmpi .ne v818 c0_i32_612
  let v823 : BitVec 1 := Scalar.andi v822 v819
  let v824 : BitVec 32 := Scalar.addi v818 v817
  let v825 : BitVec 32 := Scalar.select v823 v824 v818
  let c1_i32_617 : BitVec 32 := 1#32
  let v826 : BitVec 32 := Scalar.muli v825 c1_i32_617
  let v827 : BitVec 32 := Scalar.addi c0_i32_618 v826
  v827.toNat
def k0_dev42 (d0 : Dev nD) : Nat :=
  let c0_i32_631 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_621 : BitVec 32 := 11#32
  let v834 : BitVec 32 := Scalar.addi v2 c11_i32_621
  let c16_i32_622 : BitVec 32 := 16#32
  let c0_i32_623 : BitVec 32 := 0#32
  let v835 : BitVec 1 := Scalar.cmpi .eq c16_i32_622 c0_i32_623
  let c1_i32_624 : BitVec 32 := 1#32
  let v836 : BitVec 32 := Scalar.select v835 c1_i32_624 c16_i32_622
  let v837 : BitVec 32 := Scalar.remsi v834 v836
  let c0_i32_626 : BitVec 32 := 0#32
  let v839 : BitVec 1 := Scalar.cmpi .slt v837 c0_i32_626
  let c0_i32_627 : BitVec 32 := 0#32
  let v840 : BitVec 1 := Scalar.cmpi .slt v836 c0_i32_627
  let v841 : BitVec 1 := Scalar.xori v839 v840
  let c0_i32_625 : BitVec 32 := 0#32
  let v838 : BitVec 1 := Scalar.cmpi .ne v837 c0_i32_625
  let v842 : BitVec 1 := Scalar.andi v841 v838
  let v843 : BitVec 32 := Scalar.addi v837 v836
  let v844 : BitVec 32 := Scalar.select v842 v843 v837
  let c1_i32_630 : BitVec 32 := 1#32
  let v845 : BitVec 32 := Scalar.muli v844 c1_i32_630
  let v846 : BitVec 32 := Scalar.addi c0_i32_631 v845
  v846.toNat
def k0_dev43 (d0 : Dev nD) : Nat :=
  let c0_i32_644 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_634 : BitVec 32 := 12#32
  let v853 : BitVec 32 := Scalar.addi v2 c12_i32_634
  let c16_i32_635 : BitVec 32 := 16#32
  let c0_i32_636 : BitVec 32 := 0#32
  let v854 : BitVec 1 := Scalar.cmpi .eq c16_i32_635 c0_i32_636
  let c1_i32_637 : BitVec 32 := 1#32
  let v855 : BitVec 32 := Scalar.select v854 c1_i32_637 c16_i32_635
  let v856 : BitVec 32 := Scalar.remsi v853 v855
  let c0_i32_639 : BitVec 32 := 0#32
  let v858 : BitVec 1 := Scalar.cmpi .slt v856 c0_i32_639
  let c0_i32_640 : BitVec 32 := 0#32
  let v859 : BitVec 1 := Scalar.cmpi .slt v855 c0_i32_640
  let v860 : BitVec 1 := Scalar.xori v858 v859
  let c0_i32_638 : BitVec 32 := 0#32
  let v857 : BitVec 1 := Scalar.cmpi .ne v856 c0_i32_638
  let v861 : BitVec 1 := Scalar.andi v860 v857
  let v862 : BitVec 32 := Scalar.addi v856 v855
  let v863 : BitVec 32 := Scalar.select v861 v862 v856
  let c1_i32_643 : BitVec 32 := 1#32
  let v864 : BitVec 32 := Scalar.muli v863 c1_i32_643
  let v865 : BitVec 32 := Scalar.addi c0_i32_644 v864
  v865.toNat
def k0_dev44 (d0 : Dev nD) : Nat :=
  let c0_i32_657 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_647 : BitVec 32 := 13#32
  let v872 : BitVec 32 := Scalar.addi v2 c13_i32_647
  let c16_i32_648 : BitVec 32 := 16#32
  let c0_i32_649 : BitVec 32 := 0#32
  let v873 : BitVec 1 := Scalar.cmpi .eq c16_i32_648 c0_i32_649
  let c1_i32_650 : BitVec 32 := 1#32
  let v874 : BitVec 32 := Scalar.select v873 c1_i32_650 c16_i32_648
  let v875 : BitVec 32 := Scalar.remsi v872 v874
  let c0_i32_652 : BitVec 32 := 0#32
  let v877 : BitVec 1 := Scalar.cmpi .slt v875 c0_i32_652
  let c0_i32_653 : BitVec 32 := 0#32
  let v878 : BitVec 1 := Scalar.cmpi .slt v874 c0_i32_653
  let v879 : BitVec 1 := Scalar.xori v877 v878
  let c0_i32_651 : BitVec 32 := 0#32
  let v876 : BitVec 1 := Scalar.cmpi .ne v875 c0_i32_651
  let v880 : BitVec 1 := Scalar.andi v879 v876
  let v881 : BitVec 32 := Scalar.addi v875 v874
  let v882 : BitVec 32 := Scalar.select v880 v881 v875
  let c1_i32_656 : BitVec 32 := 1#32
  let v883 : BitVec 32 := Scalar.muli v882 c1_i32_656
  let v884 : BitVec 32 := Scalar.addi c0_i32_657 v883
  v884.toNat
def k0_dev45 (d0 : Dev nD) : Nat :=
  let c0_i32_670 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_660 : BitVec 32 := 14#32
  let v891 : BitVec 32 := Scalar.addi v2 c14_i32_660
  let c16_i32_661 : BitVec 32 := 16#32
  let c0_i32_662 : BitVec 32 := 0#32
  let v892 : BitVec 1 := Scalar.cmpi .eq c16_i32_661 c0_i32_662
  let c1_i32_663 : BitVec 32 := 1#32
  let v893 : BitVec 32 := Scalar.select v892 c1_i32_663 c16_i32_661
  let v894 : BitVec 32 := Scalar.remsi v891 v893
  let c0_i32_665 : BitVec 32 := 0#32
  let v896 : BitVec 1 := Scalar.cmpi .slt v894 c0_i32_665
  let c0_i32_666 : BitVec 32 := 0#32
  let v897 : BitVec 1 := Scalar.cmpi .slt v893 c0_i32_666
  let v898 : BitVec 1 := Scalar.xori v896 v897
  let c0_i32_664 : BitVec 32 := 0#32
  let v895 : BitVec 1 := Scalar.cmpi .ne v894 c0_i32_664
  let v899 : BitVec 1 := Scalar.andi v898 v895
  let v900 : BitVec 32 := Scalar.addi v894 v893
  let v901 : BitVec 32 := Scalar.select v899 v900 v894
  let c1_i32_669 : BitVec 32 := 1#32
  let v902 : BitVec 32 := Scalar.muli v901 c1_i32_669
  let v903 : BitVec 32 := Scalar.addi c0_i32_670 v902
  v903.toNat
def k0_dev46 (d0 : Dev nD) : Nat :=
  let c0_i32_683 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_673 : BitVec 32 := 15#32
  let v910 : BitVec 32 := Scalar.addi v2 c15_i32_673
  let c16_i32_674 : BitVec 32 := 16#32
  let c0_i32_675 : BitVec 32 := 0#32
  let v911 : BitVec 1 := Scalar.cmpi .eq c16_i32_674 c0_i32_675
  let c1_i32_676 : BitVec 32 := 1#32
  let v912 : BitVec 32 := Scalar.select v911 c1_i32_676 c16_i32_674
  let v913 : BitVec 32 := Scalar.remsi v910 v912
  let c0_i32_678 : BitVec 32 := 0#32
  let v915 : BitVec 1 := Scalar.cmpi .slt v913 c0_i32_678
  let c0_i32_679 : BitVec 32 := 0#32
  let v916 : BitVec 1 := Scalar.cmpi .slt v912 c0_i32_679
  let v917 : BitVec 1 := Scalar.xori v915 v916
  let c0_i32_677 : BitVec 32 := 0#32
  let v914 : BitVec 1 := Scalar.cmpi .ne v913 c0_i32_677
  let v918 : BitVec 1 := Scalar.andi v917 v914
  let v919 : BitVec 32 := Scalar.addi v913 v912
  let v920 : BitVec 32 := Scalar.select v918 v919 v913
  let c1_i32_682 : BitVec 32 := 1#32
  let v921 : BitVec 32 := Scalar.muli v920 c1_i32_682
  let v922 : BitVec 32 := Scalar.addi c0_i32_683 v921
  v922.toNat
def k0_off35 (d0 : Dev nD) (c0_i32_686 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v929 : BitVec 32 := Scalar.addi v2 c0_i32_686
  let c1_i32_687 : BitVec 32 := 1#32
  let v930 : BitVec 32 := Scalar.addi v929 c1_i32_687
  let c16_i32_688 : BitVec 32 := 16#32
  let c0_i32_689 : BitVec 32 := 0#32
  let v931 : BitVec 1 := Scalar.cmpi .eq c16_i32_688 c0_i32_689
  let c1_i32_690 : BitVec 32 := 1#32
  let v932 : BitVec 32 := Scalar.select v931 c1_i32_690 c16_i32_688
  let v933 : BitVec 32 := Scalar.remsi v930 v932
  let c0_i32_692 : BitVec 32 := 0#32
  let v935 : BitVec 1 := Scalar.cmpi .slt v933 c0_i32_692
  let c0_i32_693 : BitVec 32 := 0#32
  let v936 : BitVec 1 := Scalar.cmpi .slt v932 c0_i32_693
  let v937 : BitVec 1 := Scalar.xori v935 v936
  let c0_i32_691 : BitVec 32 := 0#32
  let v934 : BitVec 1 := Scalar.cmpi .ne v933 c0_i32_691
  let v938 : BitVec 1 := Scalar.andi v937 v934
  let v939 : BitVec 32 := Scalar.addi v933 v932
  let v940 : BitVec 32 := Scalar.select v938 v939 v933
  let c48_i32_695 : BitVec 32 := 48#32
  let v942 : BitVec 32 := Scalar.muli v940 c48_i32_695
  let c0_i32_700 : BitVec 32 := 0#32
  ![v942.toNat, 0]
abbrev stage0_0 : Fin 1 → Memref sig .tc .vmem S768x768 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S768x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1536x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S768x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S768x768 : Shape := ⟨2, ![768, 768]⟩
abbrev S768x24576 : Shape := ⟨2, ![768, 24576]⟩
abbrev S24576x768 : Shape := ⟨2, ![24576, 768]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S768x768, .bf16⟩
  | .hbm, ⟨1, _⟩ => ⟨S768x24576, .bf16⟩
  | .hbm, ⟨2, _⟩ => ⟨S768x24576, .bf16⟩
  | .hbm, ⟨3, _⟩ => ⟨S24576x768, .bf16⟩
  | .hbm, ⟨4, _⟩ => ⟨S768x768, .f32⟩
  | .hbm, ⟨5, _⟩ => ⟨S768x24576, .f32⟩
  | .hbm, ⟨6, _⟩ => ⟨S768x24576, .f32⟩
  | .hbm, ⟨7, _⟩ => ⟨S768x768, .f32⟩
  | .hbm, ⟨8, _⟩ => ⟨S768x24576, .f32⟩
  | .hbm, ⟨9, _⟩ => ⟨S768x24576, .f32⟩
  | .hbm, ⟨10, _⟩ => ⟨S768x24576, .f32⟩
  | .hbm, ⟨11, _⟩ => ⟨S768x24576, .f32⟩
  | .hbm, ⟨12, _⟩ => ⟨S_, .f32⟩
  | .hbm, ⟨13, _⟩ => ⟨S768x24576, .f32⟩
  | .hbm, ⟨14, _⟩ => ⟨S768x24576, .f32⟩
  | .hbm, ⟨15, _⟩ => ⟨S768x24576, .f32⟩
  | .hbm, ⟨16, _⟩ => ⟨S768x24576, .f32⟩
  | .hbm, ⟨17, _⟩ => ⟨S24576x768, .f32⟩
  | .hbm, ⟨18, _⟩ => ⟨S768x768, .f32⟩
  | _, _ => ⟨S768x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Proof.Mesh.lean ====
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

/-! # The sixteen devices, their semaphores and the pieces of their buffers

Every device talks to every other. The other devices are numbered by how far round the mesh they
are: `fwd c k` is `k + 1` places after `c`, `bwd c k` is `k + 1` places before it. -/

@[expose] public section

noncomputable section

namespace Cert.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

/-! ## The mesh -/

set_option backward.proofsInPublic true in
/-- The device `k + 1` places after `c`. -/
def fwd (c : Dev nD) (k : Fin 15) : Dev nD := ⟨(c.val + k.val + 1) % 16, Nat.mod_lt _ (by decide)⟩
set_option backward.proofsInPublic true in
/-- The device `k + 1` places before `c`. -/
def bwd (c : Dev nD) (k : Fin 15) : Dev nD := ⟨(c.val + 15 - k.val) % 16, Nat.mod_lt _ (by decide)⟩
set_option backward.proofsInPublic true in
/-- Going back `k + 1` places is going on `15 - k`. -/
def opp (k : Fin 15) : Fin 15 := ⟨14 - k.val, by omega⟩
set_option backward.proofsInPublic true in
/-- How far `t` is after `c`, less one. -/
def dist (c t : Dev nD) : Fin 15 := ⟨(t.val + 15 - c.val) % 16 % 15, Nat.mod_lt _ (by decide)⟩

theorem fwd_bwd (c : Dev nD) (k : Fin 15) : fwd (bwd c k) k = c :=
  Fin.ext (by have : c.val < 16 := c.isLt; have := k.isLt; simp only [fwd, bwd]; omega)
theorem bwd_fwd (c : Dev nD) (k : Fin 15) : bwd (fwd c k) k = c :=
  Fin.ext (by have : c.val < 16 := c.isLt; have := k.isLt; simp only [fwd, bwd]; omega)
theorem fwd_opp (c : Dev nD) (k : Fin 15) : fwd c (opp k) = bwd c k :=
  Fin.ext (by have : c.val < 16 := c.isLt; have := k.isLt; simp only [fwd, bwd, opp]; omega)
theorem bwd_opp (c : Dev nD) (k : Fin 15) : bwd c (opp k) = fwd c k :=
  Fin.ext (by have : c.val < 16 := c.isLt; have := k.isLt; simp only [fwd, bwd, opp]; omega)
theorem opp_opp (k : Fin 15) : opp (opp k) = k := Fin.ext (by have := k.isLt; simp only [opp]; omega)
theorem fwd_ne (c : Dev nD) (k : Fin 15) : fwd c k ≠ c := fun h => by
  have := congrArg Fin.val h; have : c.val < 16 := c.isLt; have := k.isLt; simp only [fwd] at *; omega
theorem bwd_ne (c : Dev nD) (k : Fin 15) : bwd c k ≠ c := fun h => by
  have := congrArg Fin.val h; have : c.val < 16 := c.isLt; have := k.isLt; simp only [bwd] at *; omega
theorem fwd_dist {c t : Dev nD} (h : t ≠ c) : fwd c (dist c t) = t :=
  Fin.ext (by
    have h' : t.val ≠ c.val := fun e => h (Fin.ext e)
    have : c.val < 16 := c.isLt; have : t.val < 16 := t.isLt; simp only [fwd, dist]; omega)
theorem fwd_inj {c : Dev nD} {k k' : Fin 15} (h : fwd c k = fwd c k') : k = k' :=
  Fin.ext (by
    have := congrArg Fin.val h; have : c.val < 16 := c.isLt; have := k.isLt; have := k'.isLt; simp only [fwd] at *; omega)
theorem bwd_inj {c : Dev nD} {k k' : Fin 15} (h : bwd c k = bwd c k') : k = k' :=
  Fin.ext (by
    have := congrArg Fin.val h; have : c.val < 16 := c.isLt; have := k.isLt; have := k'.isLt; simp only [bwd] at *; omega)

/-- Moving every device on by `k + 1` places permutes them. -/
def turn (k : Fin 15) : Dev nD ≃ Dev nD := ⟨fun c => fwd c k, fun c => bwd c k, fun c => bwd_fwd c k, fun c => fwd_bwd c k⟩

/-- Reversing the order of the fifteen distances permutes them. -/
def mirror : Fin 15 ≃ Fin 15 := ⟨opp, opp, opp_opp, opp_opp⟩

/-! ## The semaphores -/

/-- The runtime's barrier semaphore. -/
abbrev barS : Sem sig := (SemArray.scalar (sig.barrier 0 rfl) : Sems sig S_).sem

set_option backward.proofsInPublic true in
/-- The `k`-th semaphore of the kernel's `a`-th array: sends and receipts of the reduction (0 and 1), sends and receipts
    of the gathering (2 and 3). -/
def qsem (a : Fin 4) (k : Fin 15) : DmaSem sig := ⟨5 + 15 * a.val + k.val, by show _ < 65; omega⟩

/-- Which array a semaphore is of, and where in it. -/
def dec (q : DmaSem sig) : ℕ × Fin 15 := ((q.val - 5) / 15, ⟨(q.val - 5) % 15, Nat.mod_lt _ (by decide)⟩)

theorem dec_qsem (a : Fin 4) (k : Fin 15) : dec (qsem a k) = (a.val, k) :=
  Prod.ext (by have := k.isLt; simp only [dec, qsem]; omega) (Fin.ext (by have := k.isLt; simp only [dec, qsem]; omega))

theorem qsem_inj {a a' : Fin 4} {k k' : Fin 15} (h : qsem a k = qsem a' k') : a = a' ∧ k = k' := by
  have h1 : 5 + 15 * a.val + k.val = 5 + 15 * a'.val + k'.val := congrArg Fin.val h
  exact ⟨Fin.ext (by omega), Fin.ext (by omega)⟩

/-- The multi-index naming place `k` of an array of fifteen. -/
def at15 (k : Fin 15) : S15.Idx := fun | ⟨0, _⟩ => k

/-- One semaphore sliced out of an array of fifteen is the array's at the offset. -/
theorem sem_slice (a : DmaSems sig S15) (off : Fin 1 → ℕ) (inb : ∀ i, off i + S1.size i ≤ S15.size i) (h : S1.Squeezes S_)
    (k : Fin 15) (hk : off 0 = k.val) :
    (((a.slice (Rect.unit (s := S15) off S1.size inb) : DmaSems sig S1).squeeze S_ h : DmaSems sig S_)).sem = a.ix (at15 k) := by
  show a.ix _ = a.ix _
  congr 1
  funext i
  match i with
  | ⟨0, _⟩ =>
    apply Fin.ext
    rw [Rect.emb_apply]
    have h1 : ∀ j : S1.Idx, off 0 + 1 * (j 0).val = k.val := fun j => by have : (j 0).val < 1 := (j 0).isLt; omega
    exact h1 _

theorem ix_arr (a : Fin 4) (k : Fin 15) (base : ℕ) (h : base + S15.numel ≤ 65) (hb : base = 5 + 15 * a.val) :
    (SemArray.consecutive base S15 h : DmaSems sig S15).ix (at15 k) = qsem a k := by
  subst hb
  have : ∀ k : Fin 15, (S15.rowMajor (at15 k)).val = k.val := by decide
  exact Fin.ext (by show _ + _ = _; rw [this]; rfl)

/-! ## The kernel's buffers -/

abbrev xM : Memref sig .tc .vmem S768x768 .bf16 := Memref.whole cc0_stg0_0
abbrev gM : Memref sig .tc .vmem S768x1536 .bf16 := Memref.whole cc0_stg1_0
abbrev uM : Memref sig .tc .vmem S768x1536 .bf16 := Memref.whole cc0_stg2_0
abbrev dM : Memref sig .tc .vmem S1536x768 .bf16 := Memref.whole cc0_stg3_0
abbrev oM : Memref sig .tc .vmem S768x768 .f32 := Memref.whole cc0_stg4_0
/-- The partial product, the received chunks of the reduction, the gathered result. -/
abbrev stM : Memref sig .tc .vmem S768x768 .bf16 := Memref.whole cc0_scratch0
abbrev rsM : Memref sig .tc .vmem S15x48x768 .bf16 := Memref.whole cc0_scratch1
abbrev agM : Memref sig .tc .vmem S768x768 .bf16 := Memref.whole cc0_scratch2

/-! ## Rows of a square buffer and slots of the receive buffer -/

/-- The elements of rows `a ≤ r < b`. -/
def rows (a b : ℕ) : Finset S768x768.Idx := Finset.univ.filter fun i => a ≤ (i 0).val ∧ (i 0).val < b
/-- The elements of slot `k`. -/
def slot (k : Fin 15) : Finset S15x48x768.Idx := Finset.univ.filter fun i => (i 0).val = k.val

theorem mem_rows {a b : ℕ} {i : S768x768.Idx} : i ∈ rows a b ↔ a ≤ (i 0).val ∧ (i 0).val < b := by simp [rows]
theorem mem_slot {k : Fin 15} {i : S15x48x768.Idx} : i ∈ slot k ↔ (i 0).val = k.val := by simp [slot]

theorem rows_union {a m b : ℕ} (h₁ : a ≤ m) (h₂ : m ≤ b) : rows a b = rows a m ∪ rows m b := by
  ext i; rw [Finset.mem_union, mem_rows, mem_rows, mem_rows]; omega
theorem rows_disjoint {a m b : ℕ} : Disjoint (rows a m) (rows m b) := by
  rw [Finset.disjoint_left]; intro i h h'; rw [mem_rows] at h h'; omega
theorem rows_univ : rows 0 768 = Finset.univ := by
  ext i; rw [mem_rows]; have : (i 0).val < 768 := (i 0).isLt; simp [this]
theorem rows_empty (a : ℕ) : rows a a = ∅ := by
  ext i; rw [mem_rows]; simp

/-- The elements of chunk `t`, the forty-eight rows device `t` reduces. -/
abbrev chunk (t : Dev nD) : Finset S768x768.Idx := rows (48 * t.val) (48 * (t.val + 1))

theorem chunk_disjoint (t t' : Dev nD) (h : t ≠ t') : Disjoint (chunk t) (chunk t') := by
  rw [Finset.disjoint_left]; intro i hi hi'; rw [mem_rows] at hi hi'
  exact h (Fin.ext (by omega))
theorem chunk_cover : Finset.univ.biUnion chunk = Finset.univ := by
  ext i
  have hi : (i 0).val < 768 := (i 0).isLt
  simp only [Finset.mem_biUnion, Finset.mem_univ, true_and, iff_true]
  exact ⟨⟨(i 0).val / 48, by show _ < 16; omega⟩, mem_rows.mpr (by dsimp only; omega)⟩

theorem slot_disjoint (k k' : Fin 15) (h : k ≠ k') : Disjoint (slot k) (slot k') := by
  rw [Finset.disjoint_left]; intro i hi hi'; rw [mem_slot] at hi hi'
  exact h (Fin.ext (by omega))
theorem slot_cover : Finset.univ.biUnion slot = Finset.univ := by
  ext i
  have hi : (i 0).val < 15 := (i 0).isLt
  simp only [Finset.mem_biUnion, Finset.mem_univ, true_and, iff_true]
  exact ⟨⟨(i 0).val, hi⟩, mem_slot.mpr rfl⟩

/-- A band of whole rows is the rows from its offset. -/
theorem rect_rows (off : Fin 2 → ℕ) (n : ℕ) (inb : ∀ a, off a + ![n, 768] a ≤ S768x768.size a) (h1 : off 1 = 0) :
    (Rect.unit (s := S768x768) off ![n, 768] inb).set = rows (off 0) (off 0 + n) := by
  ext i
  have hi : (i 1).val < 768 := (i 1).isLt
  rw [Rect.mem_set_unit, mem_rows]
  constructor
  · intro h; exact h 0
  · intro h a
    match a with
    | ⟨0, _⟩ => exact h
    | ⟨1, _⟩ => show off 1 ≤ (i 1).val ∧ (i 1).val < off 1 + 768; omega

theorem rect_slot (off : Fin 3 → ℕ) (inb : ∀ a, off a + S1x48x768.size a ≤ S15x48x768.size a) (k : Fin 15) (h0 : off 0 = k.val)
    (h1 : off 1 = 0) (h2 : off 2 = 0) :
    (Rect.unit (s := S15x48x768) off S1x48x768.size inb).set = slot k := by
  ext i
  have hi1 : (i 1).val < 48 := (i 1).isLt
  have hi2 : (i 2).val < 768 := (i 2).isLt
  rw [Rect.mem_set_unit, mem_slot]
  constructor
  · intro h
    have : off 0 ≤ (i 0).val ∧ (i 0).val < off 0 + 1 := h 0
    omega
  · intro h a
    match a with
    | ⟨0, _⟩ => show off 0 ≤ (i 0).val ∧ (i 0).val < off 0 + 1; omega
    | ⟨1, _⟩ => show off 1 ≤ (i 1).val ∧ (i 1).val < off 1 + 48; omega
    | ⟨2, _⟩ => show off 2 ≤ (i 2).val ∧ (i 2).val < off 2 + 768; omega

/-! ### Indices -/

/-- Row `r`, column `j` of a square buffer. -/
def ij (r : ℕ) (hr : r < 768) (j : Fin 768) : S768x768.Idx := fun | ⟨0, _⟩ => ⟨r, hr⟩ | ⟨1, _⟩ => j
/-- Row `r`, column `j` of a chunk. -/
def ij48 (r : ℕ) (hr : r < 48) (j : Fin 768) : S48x768.Idx := fun | ⟨0, _⟩ => ⟨r, hr⟩ | ⟨1, _⟩ => j
/-- Row `r`, column `j` of a block of four chunks. -/
def ij192 (r : ℕ) (hr : r < 192) (j : Fin 768) : S192x768.Idx := fun | ⟨0, _⟩ => ⟨r, hr⟩ | ⟨1, _⟩ => j

theorem ext2 {s : Shape} (hs : s.rank = 2) {i j : s.Idx} (h0 : (i ⟨0, by omega⟩).val = (j ⟨0, by omega⟩).val)
    (h1 : (i ⟨1, by omega⟩).val = (j ⟨1, by omega⟩).val) : i = j := by
  funext a
  have ha := a.isLt
  apply Fin.ext
  obtain ⟨a, h⟩ := a
  rcases Nat.lt_or_ge a 1 with h' | h'
  · have : a = 0 := by omega
    subst this; exact h0
  · have : a = 1 := by omega
    subst this; exact h1

end Cert.Mlp

end
-- ==== Proof.Contents.lean ====
module

public import proofs.«01_k».proof.Proof.Mesh

/-! # What the buffers hold

`P c` is what device `c` leaves in its `stage` buffer: its partial product, rounded. From these
alone the received chunks, the reduced chunk, the gathered array and the result follow. -/

@[expose] public section

noncomputable section

namespace Cert.Mlp

open Cert.KernelIdeal Cert.KernelIdeal.Gen

open Idealize.ShloMosaic
open Idealize.ShloMosaic.TcCoe

variable {F : FTy → Type} [FloatOps F]

/-! ## Values -/

/-- The block of 192 rows the kernel stores as its `b`-th. -/
def blkPay (x : Vec F S768x768 .bf16) (g u : Vec F S768x1536 .bf16) (d : Vec F S1536x768 .bf16) : Fin 4 → Vec F S192x768 .bf16
  | 0 => k0_pay5 x g u d
  | 1 => k0_pay6 (k0_pay1 x) (k0_pay2 g) (k0_pay3 u) (k0_pay4 d)
  | 2 => k0_pay8 (k0_pay7 (k0_pay1 x) (k0_pay2 g) (k0_pay3 u) (k0_pay4 d))
  | 3 => k0_pay11 (k0_pay3 u) (k0_pay4 d) (k0_pay9 (k0_pay1 x)) (k0_pay10 (k0_pay1 x) (k0_pay2 g)) (constant S192x1536 .f32 0x00000000#32)

theorem row_lt (i : S768x768.Idx) : (i 0).val < 768 := (i 0).isLt

set_option backward.proofsInPublic true in
/-- A device's whole partial product: the four blocks one above the other. -/
def partialOf (x : Vec F S768x768 .bf16) (g u : Vec F S768x1536 .bf16) (d : Vec F S1536x768 .bf16) : Vec F S768x768 .bf16 :=
  fun i => blkPay x g u d ⟨(i 0).val / 192, by have := row_lt i; omega⟩
    (ij192 ((i 0).val % 192) (Nat.mod_lt _ (by decide)) (i 1))

set_option backward.proofsInPublic true in
/-- The rows of chunk `t`. -/
def chunkOf (t : Dev nD) (f : Vec F S768x768 .bf16) : Vec F S48x768 .bf16 :=
  fun j => f (ij (48 * t.val + (j 0).val) (by have : t.val < 16 := t.isLt; have : (j 0).val < 48 := (j 0).isLt; omega) (j 1))

variable (P : Dev nD → Vec F S768x768 .bf16)

/-- What device `d` has received once every other device's chunk has landed: slot `k` from the device `k + 1` places
    before it. -/
def rsOf (d : Dev nD) : Vec F S15x48x768 .bf16 :=
  fun i => chunkOf d (P (bwd d (i 0))) (ij48 (i 1).val (i 1).isLt (i 2))

/-- Device `d`'s reduced chunk. -/
def redOf (d : Dev nD) : Vec F S48x768 .bf16 := k0_pay13 (k0_pay12 (chunkOf d (P d))) (rsOf P d)

set_option backward.proofsInPublic true in
/-- The gathered array, the same on every device. -/
def agOf : Vec F S768x768 .bf16 :=
  fun i => redOf P ⟨(i 0).val / 48, by have := row_lt i; show _ < 16; omega⟩ (ij48 ((i 0).val % 48) (Nat.mod_lt _ (by decide)) (i 1))

/-- The result, the same on every device. -/
def outOf : Vec F S768x768 .f32 := k0_pay14 (agOf P)

/-! ## The pieces as views -/

section Views

variable (off : Fin 2 → ℕ) (inb : ∀ a, off a + S48x768.size a ≤ S768x768.size a)

theorem emb_st (r : Rect S768x768) (j : r.shape.Idx) : ((stM : Memref sig .tc .vmem S768x768 .bf16).view.slice r).emb j = r.emb j := rfl
theorem emb_ag (r : Rect S768x768) (j : r.shape.Idx) : ((agM : Memref sig .tc .vmem S768x768 .bf16).view.slice r).emb j = r.emb j := rfl

/-- A chunk of a square buffer, read from its offset. -/
theorem rect_chunk (t : Dev nD) (hoff : off = ![48 * t.val, 0]) :
    (Rect.unit (s := S768x768) off S48x768.size inb).set = chunk t := by
  subst hoff
  exact (rect_rows _ 48 inb rfl).trans rfl

theorem emb_chunk (t : Dev nD) (hoff : off = ![48 * t.val, 0]) (j : S48x768.Idx) :
    (Rect.unit (s := S768x768) off S48x768.size inb).emb j
      = ij (48 * t.val + (j 0).val) (by have : t.val < 16 := t.isLt; have : (j 0).val < 48 := (j 0).isLt; omega) (j 1) := by
  subst hoff
  refine ext2 rfl ?_ ?_
  · show (48 * t.val) + 1 * (j 0).val = 48 * t.val + (j 0).val; omega
  · show 0 + 1 * (j 1).val = (j 1).val; omega

theorem read_st_chunk (t : Dev nD) (hoff : off = ![48 * t.val, 0]) (f : Vec F S768x768 .bf16) :
    ((stM : Memref sig .tc .vmem S768x768 .bf16).view.slice (Rect.unit (s := S768x768) off S48x768.size inb)).read (Elt F) f = chunkOf t f :=
  funext fun j => by
    show f ((Rect.unit (s := S768x768) off S48x768.size inb).emb j) = _
    rw [emb_chunk off inb t hoff]; rfl

theorem read_ag_chunk (t : Dev nD) (hoff : off = ![48 * t.val, 0]) (f : Vec F S768x768 .bf16) :
    ((agM : Memref sig .tc .vmem S768x768 .bf16).view.slice (Rect.unit (s := S768x768) off S48x768.size inb)).read (Elt F) f = chunkOf t f :=
  funext fun j => by
    show f ((Rect.unit (s := S768x768) off S48x768.size inb).emb j) = _
    rw [emb_chunk off inb t hoff]; rfl

/-- An element of chunk `t` is the chunk's own element at the row within it. -/
theorem exists_chunk {t : Dev nD} {i : S768x768.Idx} (hi : i ∈ chunk t) :
    i = ij (48 * t.val + ((i 0).val - 48 * t.val)) (by have := row_lt i; rw [mem_rows] at hi; omega) (i 1) := by
  rw [mem_rows] at hi
  refine ext2 rfl ?_ rfl
  show (i 0).val = 48 * t.val + ((i 0).val - 48 * t.val); omega

theorem chunkOf_agOf (t : Dev nD) : chunkOf t (agOf P) = redOf P t := funext fun j => by
  have hj : (j 0).val < 48 := (j 0).isLt
  have ht : t.val < 16 := t.isLt
  exact congrArg₂ (fun (t : Dev nD) (j : S48x768.Idx) => redOf P t j)
    (Fin.ext (by show (48 * t.val + (j 0).val) / 48 = t.val; omega))
    (ext2 rfl (by show (48 * t.val + (j 0).val) % 48 = (j 0).val; omega) rfl)

/-- Writing a chunk of some whole contents leaves those contents on the chunk. -/
theorem write_ag_chunk (t : Dev nD) (hoff : off = ![48 * t.val, 0]) (f g : Vec F S768x768 .bf16) (w : Vec F S48x768 .bf16)
    (hw : w = chunkOf t g) {i : S768x768.Idx} (hi : i ∈ chunk t) :
    ((agM : Memref sig .tc .vmem S768x768 .bf16).view.slice (Rect.unit (s := S768x768) off S48x768.size inb)).write (Elt F) f w Finset.univ i = g i := by
  subst hw
  have hi' : i ∈ (Rect.unit (s := S768x768) off S48x768.size inb).set := by rw [rect_chunk off inb t hoff]; exact hi
  rw [← Rect.map_emb_univ, Finset.mem_map] at hi'
  obtain ⟨j, -, rfl⟩ := hi'
  refine (View.write_emb_of_mem (v := (agM : Memref sig .tc .vmem S768x768 .bf16).view.slice (Rect.unit (s := S768x768) off S48x768.size inb))
    (Val := Elt F) f (chunkOf t g) (Finset.mem_univ j)).trans ?_
  show chunkOf t g j = _
  rw [emb_chunk off inb t hoff]; rfl

end Views

/-- Storing block `b` leaves the partial product on its rows. -/
theorem write_st_block (x : Vec F S768x768 .bf16) (g u : Vec F S768x1536 .bf16) (d : Vec F S1536x768 .bf16) (b : Fin 4)
    (off : Fin 2 → ℕ) (inb : ∀ a, off a + S192x768.size a ≤ S768x768.size a) (hoff : off = ![192 * b.val, 0])
    (f : Vec F S768x768 .bf16) (w : Vec F S192x768 .bf16) (hw : w = blkPay x g u d b) {i : S768x768.Idx}
    (hi : i ∈ rows (192 * b.val) (192 * b.val + 192)) :
    ((stM : Memref sig .tc .vmem S768x768 .bf16).view.slice (Rect.unit (s := S768x768) off S192x768.size inb)).write (Elt F) f w Finset.univ i
      = partialOf x g u d i := by
  subst hw hoff
  have hi' : i ∈ (Rect.unit (s := S768x768) ![192 * b.val, 0] S192x768.size inb).set :=
    (rect_rows ![192 * b.val, 0] 192 inb rfl).symm ▸ hi
  rw [← Rect.map_emb_univ, Finset.mem_map] at hi'
  obtain ⟨j, -, rfl⟩ := hi'
  refine (View.write_emb_of_mem (v := (stM : Memref sig .tc .vmem S768x768 .bf16).view.slice (Rect.unit (s := S768x768) ![192 * b.val, 0] S192x768.size inb))
    (Val := Elt F) f (blkPay x g u d b) (Finset.mem_univ j)).trans ?_
  show blkPay x g u d b j = _
  have hj : (j 0).val < 192 := (j 0).isLt
  exact congrArg₂ (fun (b : Fin 4) (j : S192x768.Idx) => blkPay x g u d b j)
    (Fin.ext (by show b.val = (192 * b.val + 1 * (j 0).val) / 192; omega))
    (ext2 rfl (by show (j 0).val = (192 * b.val + 1 * (j 0).val) % 192; omega) (by show (j 1).val = 0 + 1 * (j 1).val; omega))

/-- The slot a chunk of the reduction lands in. -/
theorem write_slot (off : Fin 3 → ℕ) (inb : ∀ a, off a + S1x48x768.size a ≤ S15x48x768.size a) (hsq : S1x48x768.Squeezes S48x768)
    (hr : ∀ a, (Rect.unit (s := S15x48x768) off S1x48x768.size inb).stride a = 1)
    (k : Fin 15) (hoff : off = ![k.val, 0, 0]) (c t : Dev nD) (ht : t = fwd c k)
    (f : Vec F S15x48x768 .bf16) (w : Vec F S48x768 .bf16) (hw : w = chunkOf t (P c)) {i : S15x48x768.Idx} (hi : i ∈ slot k) :
    ((rsM.slice (Rect.unit (s := S15x48x768) off S1x48x768.size inb) hr).squeeze S48x768 hsq : Memref sig .tc .vmem S48x768 .bf16).view.write (Elt F) f w Finset.univ i
      = rsOf P t i := by
  subst hw ht hoff
  rw [mem_slot] at hi
  have he : i = ((rsM.slice (Rect.unit (s := S15x48x768) ![k.val, 0, 0] S1x48x768.size inb) hr).squeeze S48x768 hsq : Memref sig .tc .vmem S48x768 .bf16).view.emb
      (ij48 (i 1).val (i 1).isLt (i 2)) := by
    show i = (Rect.unit (s := S15x48x768) ![k.val, 0, 0] S1x48x768.size inb).emb (Shape.reshapeEquiv hsq.numel_eq (ij48 (i 1).val (i 1).isLt (i 2)))
    have hc : Shape.reshapeEquiv hsq.numel_eq (ij48 (i 1).val (i 1).isLt (i 2)) = Fin.cons ⟨0, Nat.one_pos⟩ (ij48 (i 1).val (i 1).isLt (i 2)) :=
      Shape.reshapeEquiv_cons_one (n := 2) (d := ![48, 768]) hsq.numel_eq _
    rw [hc]
    funext a
    apply Fin.ext
    match a with
    | ⟨0, _⟩ => show (i 0).val = k.val + 1 * 0; omega
    | ⟨1, _⟩ => show (i 1).val = 0 + 1 * (i 1).val; omega
    | ⟨2, _⟩ => show (i 2).val = 0 + 1 * (i 2).val; omega
  refine (congrArg _ he).trans ((View.write_emb_of_mem
    (v := ((rsM.slice (Rect.unit (s := S15x48x768) ![k.val, 0, 0] S1x48x768.size inb) hr).squeeze S48x768 hsq : Memref sig .tc .vmem S48x768 .bf16).view)
    (Val := Elt F) f _ (Finset.mem_univ _)).trans ?_)
  show chunkOf (fwd c k) (P c) _ = chunkOf (fwd c k) (P (bwd (fwd c k) (i 0))) _
  rw [show (i 0 : Fin 15) = k from Fin.ext hi, bwd_fwd]

theorem hz2 : (![0, 0] : Fin 2 → Nat) = fun _ => 0 := funext fun a => by fin_cases a <;> rfl
theorem hz3 : (![0, 0, 0] : Fin 3 → Nat) = fun _ => 0 := funext fun a => by fin_cases a <;> rfl

end Cert.Mlp

end
-- ==== Proof.Schedule.lean ====
module

public import proofs.«01_k».proof.Proof.Contents

/-! # Who pays what into which semaphore

Each semaphore runs one round. A device's barrier is paid one unit by every other device; each of
its sixty transfer semaphores is paid one chunk's credit, once. What comes with a payment is the
ownership of the memory the payment makes available. -/

@[expose] public section

noncomputable section

namespace Cert.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Idealize.ShloMosaic.Pipeline (Dat Cfg Window BodyObligation cellOf)

variable {F : FTy → Type} [FloatOps F]

/-! ## The resource algebra: the pipeline's own rounds and the devices' (a duty for each distance) -/

abbrev UB : Type := URounds (GSem nD τ sig) (Fin 15)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Cells -/

abbrev barCell (c : Dev nD) : GSem nD τ sig := ((c : Thread nD τ), .reg barS)
abbrev qCell (c : Dev nD) (a : Fin 4) (k : Fin 15) : GSem nD τ sig := ((c : Thread nD τ), .dma (qsem a k))

/-- A device's semaphores: the barrier, and the four arrays. -/
abbrev CI : Type := Option (Fin 4 × Fin 15)
abbrev csem : CI → SemLoc sig
  | none => .reg barS
  | some ak => .dma (qsem ak.1 ak.2)
abbrev kcell (ck : Dev nD × CI) : GSem nD τ sig := ((ck.1 : Thread nD τ), csem ck.2)

/-- The credit of one chunk. -/
abbrev N : ℕ := (stM.slice (Rect.unit (s := S768x768) ![0, 0] S48x768.size inb_S768x768_S48x768_0_0) (fun _ => rfl) : Memref sig .tc .vmem S48x768 .bf16).view.dmaCredit
theorem N_pos : 0 < N := View.dmaCredit_pos _ (by decide)

/-! ## Ownership of the pieces -/

def stPts (c : Dev nD) (a b : ℕ) (f : Vec F S768x768 .bf16) : sProp 𝕄 :=
  ((c : Thread nD τ).loc cc0_scratch0) ↦[rows a b]{fullShare} f
def slotPts (c : Dev nD) (k : Fin 15) (f : Vec F S15x48x768 .bf16) : sProp 𝕄 :=
  ((c : Thread nD τ).loc cc0_scratch1) ↦[slot k]{fullShare} f
def agPts (c : Dev nD) (q : PosShare TreeShare) (t : Dev nD) (f : Vec F S768x768 .bf16) : sProp 𝕄 :=
  ((c : Thread nD τ).loc cc0_scratch2) ↦[chunk t]{q} f

omit [FloatOps F] in
instance stPts_storable (c : Dev nD) (a b f) : BI.Storable (upEmb : UEmb _ 𝕄) (stPts (F := F) c a b f) := by unfold stPts; infer_instance
omit [FloatOps F] in
instance slotPts_storable (c : Dev nD) (k f) : BI.Storable (upEmb : UEmb _ 𝕄) (slotPts (F := F) c k f) := by unfold slotPts; infer_instance
omit [FloatOps F] in
instance agPts_storable (c : Dev nD) (q t f) : BI.Storable (upEmb : UEmb _ 𝕄) (agPts (F := F) c q t f) := by unfold agPts; infer_instance

variable (P : Dev nD → Vec F S768x768 .bf16)

/-! ## The payments -/

/-- With the barrier signal of the device `k + 1` places before `d` comes that device's slot for `d`'s chunk and its
    room for `d`'s gathered chunk. -/
def barPay (d : Dev nD) (k : Fin 15) : sProp 𝕄 :=
  iprop((∃ f, slotPts (bwd d k) (opp k) f) ∗ ∃ f, agPts (bwd d k) fullShare d f)

/-- The pay of a transfer semaphore: the sent chunk back, the received chunk, the lent share of the own chunk back, the
    gathered chunk. -/
def xferPay (c : Dev nD) : ℕ × Fin 15 → sProp 𝕄
  | (0, k) => iprop(∃ f, stPts c (48 * (fwd c k).val) (48 * ((fwd c k).val + 1)) f)
  | (1, k) => slotPts c k (rsOf P c)
  | (2, k) => agPts c (shareTok fullShare 15 k) c (agOf P)
  | (3, k) => agPts c fullShare (bwd c k) (agOf P)
  | _ => iprop(emp)

abbrev IsBar (g : GSem nD τ sig) : Prop := g.1.2 = .tc ∧ g.2 = .reg barS
def IsXfer (g : GSem nD τ sig) : Prop := g.1.2 = .tc ∧ ∃ a k, g.2 = .dma (qsem a k)

open Classical in
def sched : Rounds.Schedule (GSem nD τ sig) (Fin 15) 𝕄 where
  duties g r := if r = 0 ∧ IsBar g then Finset.univ else if r = 0 ∧ IsXfer g then {0} else ∅
  unitless _ := False
  amount g _ _ := if g.2 = .reg barS then 1 else N
  payload g _ d := match g.2 with
    | .reg _ => barPay g.1.1 d
    | .dma q => xferPay P g.1.1 (dec q)
  amount_pos g _ _ _ := by
    by_cases h : g.2 = .reg barS
    · rw [if_pos h]; exact Nat.one_pos
    · rw [if_neg h]; exact N_pos

instance xferPay_storable (c : Dev nD) (x : ℕ × Fin 15) : BI.Storable (upEmb : UEmb _ 𝕄) (xferPay (F := F) P c x) := by
  unfold xferPay; split <;> infer_instance

instance sched_payload_storable (g : GSem nD τ sig) (r : ℕ) (d : Fin 15) :
    BI.Storable (upEmb : UEmb _ 𝕄) ((sched (F := F) P).payload g r d) := by
  show BI.Storable upEmb (match g.2 with | .reg _ => barPay g.1.1 d | .dma q => xferPay P g.1.1 (dec q))
  unfold barPay
  split <;> infer_instance

section Sched
variable (c : Dev nD) (a : Fin 4) (k : Fin 15)

theorem q_ne_bar : (SemLoc.dma (qsem a k) : SemLoc sig) ≠ .reg barS := fun h => by cases h
theorem not_bar_q : ¬ IsBar (qCell c a k) := fun h => q_ne_bar a k h.2

theorem duties_bar : (sched (F := F) P).duties (barCell c) 0 = Finset.univ := by dsimp only [sched]; exact if_pos ⟨rfl, rfl, rfl⟩
theorem duties_q : (sched (F := F) P).duties (qCell c a k) 0 = {0} := by
  dsimp only [sched]; rw [if_neg (fun h => not_bar_q c a k h.2)]; exact if_pos ⟨rfl, rfl, a, k, rfl⟩
theorem duties_later (g : GSem nD τ sig) : ∀ r, 1 ≤ r → (sched (F := F) P).duties g r = ∅ :=
  fun r hr => by dsimp only [sched]; rw [if_neg fun h => by omega, if_neg fun h => by omega]

theorem amount_bar (d : Fin 15) : (sched (F := F) P).amount (barCell c) 0 d = 1 := by dsimp only [sched]; exact if_pos rfl
theorem amount_q (d : Fin 15) : (sched (F := F) P).amount (qCell c a k) 0 d = N := by dsimp only [sched]; exact if_neg (q_ne_bar a k)

theorem expect_bar : (sched (F := F) P).expect (barCell c) 0 = 15 := by
  unfold Schedule.expect Schedule.amountOf
  rw [duties_bar, Finset.sum_congr rfl fun d _ => amount_bar P c d, Finset.sum_const, Finset.card_univ, Fintype.card_fin, smul_eq_mul]
theorem expect_q : (sched (F := F) P).expect (qCell c a k) 0 = N := by
  unfold Schedule.expect Schedule.amountOf; rw [duties_q, Finset.sum_singleton, amount_q]

theorem payload_bar (d : Fin 15) : (sched (F := F) P).payload (barCell c) 0 d = barPay c d := rfl
theorem payload_q (d : Fin 15) : (sched (F := F) P).payload (qCell c a k) 0 d = xferPay P c (a.val, k) := by
  show xferPay P c (dec (qsem a k)) = _; rw [dec_qsem]

/-- All that has come with a barrier's fifteen units. -/
theorem rest_bar : bigSep ((sched (F := F) P).duties (barCell c) 0 \ ∅) (fun d => (sched (F := F) P).payload (barCell c) 0 d)
    = bigSep Finset.univ fun d => barPay c d := by
  rw [Finset.sdiff_empty, duties_bar]; rfl
theorem rest_q : bigSep ((sched (F := F) P).duties (qCell c a k) 0 \ ∅) (fun d => (sched (F := F) P).payload (qCell c a k) 0 d)
    = xferPay P c (a.val, k) := by
  rw [Finset.sdiff_empty, duties_q, bigSep_singleton, payload_q]

end Sched

/-! ## What each device owes at launch -/

/-- The units and credits device `c` owes for the distances in `S`: one unit to a barrier, a chunk to a receipt of the
    reduction, a chunk to a receipt of the gathering. -/
def owBar (c : Dev nD) (S : Finset (Fin 15)) : CellTallies nD τ sig Unit := ∑ k ∈ S, tallyAt (barCell (fwd c k)) () 1
def owQ (a : Fin 4) (c : Dev nD) (S : Finset (Fin 15)) : CellTallies nD τ sig Unit := ∑ k ∈ S, tallyAt (qCell (fwd c k) a k) () N

theorem owQ_empty (a : Fin 4) (c : Dev nD) : owQ a c ∅ = 0 := Finset.sum_empty
theorem owBar_empty (c : Dev nD) : owBar c ∅ = 0 := Finset.sum_empty
theorem owQ_insert (a : Fin 4) (c : Dev nD) {S : Finset (Fin 15)} {k : Fin 15} (h : k ∉ S) :
    owQ a c (insert k S) = owQ a c S + tallyAt (qCell (fwd c k) a k) () N := by
  unfold owQ; rw [Finset.sum_insert h, add_comm]
theorem owBar_insert (c : Dev nD) {S : Finset (Fin 15)} {k : Fin 15} (h : k ∉ S) :
    owBar c (insert k S) = owBar c S + tallyAt (barCell (fwd c k)) () 1 := by
  unfold owBar; rw [Finset.sum_insert h, add_comm]

def O₀ (c : Dev nD) : CellTallies nD τ sig Unit := owQ 3 c Finset.univ + owQ 1 c Finset.univ + owBar c Finset.univ

def L (g : GSem nD τ sig) : Finset Unit := if g.1.2 = .tc then {()} else ∅
/-- Barriers come first, then the receipts of the reduction, then those of the gathering; a device waits for nothing
    else while it owes. -/
def lv (g : GSem nD τ sig) (_ : Unit) : ℕ := match g.2 with
  | .reg _ => 1
  | .dma q => if (dec q).1 = 1 then 2 else if (dec q).1 = 3 then 3 else 0

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) : lv (barCell c) () = 1 := rfl
theorem lv_q (c : Dev nD) (a : Fin 4) (k : Fin 15) : lv (qCell c a k) () = if a.val = 1 then 2 else if a.val = 3 then 3 else 0 := by
  show (if (dec (qsem a k)).1 = 1 then 2 else if (dec (qsem a k)).1 = 3 then 3 else 0) = _
  rw [dec_qsem]
theorem lv_q1 (c : Dev nD) (k : Fin 15) : lv (qCell c 1 k) () = 2 := lv_q c 1 k
theorem lv_q3 (c : Dev nD) (k : Fin 15) : lv (qCell c 3 k) () = 3 := lv_q c 3 k
theorem lv_stage (c : Dev nD) (q : DmaSem sig) (hq : q.val < 5) : lv ((c : Thread nD τ), .dma q) () = 0 := by
  show (if (dec q).1 = 1 then 2 else if (dec q).1 = 3 then 3 else 0) = 0
  have h1 : (dec q).1 = 0 := by show (q.val - 5) / 15 = 0; omega
  rw [h1]; rfl

/-- Something owed is owed to one of the cells summed over. -/
theorem owQ_pos {a : Fin 4} {c : Dev nD} {S : Finset (Fin 15)} {g : GSem nD τ sig} {u : Unit} (h : 0 < owQ a c S g u) :
    ∃ k ∈ S, g = qCell (fwd c k) a k := by
  by_contra hn
  have : owQ a c S g u = 0 := by
    unfold owQ; rw [Finset.sum_apply, Finsupp.finset_sum_apply]
    refine Finset.sum_eq_zero fun k hk => ?_
    rw [tallyAt_apply]; exact if_neg fun h' => hn ⟨k, hk, h'.1⟩
  omega
theorem owBar_pos {c : Dev nD} {S : Finset (Fin 15)} {g : GSem nD τ sig} {u : Unit} (h : 0 < owBar c S g u) :
    ∃ k ∈ S, g = barCell (fwd c k) := by
  by_contra hn
  have : owBar c S g u = 0 := by
    unfold owBar; rw [Finset.sum_apply, Finsupp.finset_sum_apply]
    refine Finset.sum_eq_zero fun k hk => ?_
    rw [tallyAt_apply]; exact if_neg fun h' => hn ⟨k, hk, h'.1⟩
  omega

/-- What a device owes at any time of its run: to barriers, and to receipts. -/
theorem owed_pos {c : Dev nD} {S₁ S₃ SB : Finset (Fin 15)} {g : GSem nD τ sig} {u : Unit}
    (h : 0 < (owQ 3 c S₃ + owQ 1 c S₁ + owBar c SB) g u) :
    (∃ k ∈ S₃, g = qCell (fwd c k) 3 k) ∨ (∃ k ∈ S₁, g = qCell (fwd c k) 1 k) ∨ ∃ k ∈ SB, g = barCell (fwd c k) := by
  rw [Pi.add_apply, Finsupp.add_apply, Pi.add_apply, Finsupp.add_apply] at h
  rcases Nat.eq_zero_or_pos (owQ 3 c S₃ g u) with h3 | h3
  · rcases Nat.eq_zero_or_pos (owQ 1 c S₁ g u) with h1 | h1
    · refine .inr (.inr (owBar_pos (u := u) ?_))
      rw [h3, h1, Nat.zero_add] at h; exact h
    · exact .inr (.inl (owQ_pos h1))
  · exact .inl (owQ_pos h3)

/-- The order of the cells. -/
@[irreducible] def levels : sProp 𝕄 := levAts L lv
instance levels_persistent : BI.Persistent (levels (F := F)) := by unfold levels; infer_instance

/-- A wait on a cell of level `n` is allowed while all that is owed is owed to cells of higher level. -/
theorem mayWait_of (c : Dev nD) (sm : SemLoc sig) (n : ℕ) (hn : lv ((c : Thread nD τ), sm) () = n) (S₁ S₃ SB : Finset (Fin 15))
    (h₁ : S₁ = ∅ ∨ n < 2) (h₃ : S₃ = ∅ ∨ n < 3) (hB : SB = ∅ ∨ n < 1) :
    levels (F := F) ⊢ MayWait (c : Thread nD τ) sm () (owQ 3 c S₃ + owQ 1 c S₁ + owBar c SB) := by
  unfold levels
  refine MayOwe.of_cut (L := L) (lev := lv) n (fun p hp => by rw [Finset.mem_singleton.mp hp, L_tc]; exact Finset.mem_singleton_self _)
    (fun g u hg => by
      rcases owed_pos hg with ⟨k, -, rfl⟩ | ⟨k, -, rfl⟩ | ⟨k, -, rfl⟩ <;> exact Finset.mem_singleton_self _)
    (fun p hp => by rw [Finset.mem_singleton.mp hp]; exact hn.le)
    (fun g u hg => by
      rcases owed_pos hg with ⟨k, hk, rfl⟩ | ⟨k, hk, rfl⟩ | ⟨k, hk, rfl⟩
      · rcases h₃ with rfl | h; · exact absurd hk (Finset.notMem_empty _)
        rw [lv_q3]; exact h
      · rcases h₁ with rfl | h; · exact absurd hk (Finset.notMem_empty _)
        rw [lv_q1]; exact h
      · rcases hB with rfl | h; · exact absurd hk (Finset.notMem_empty _)
        rw [lv_bar]; exact h)

end Cert.Mlp

end
-- ==== Proof.Steps.lean ====
module

public import proofs.«01_k».proof.Proof.Schedule

/-! # The steps of a device's run

What each signal, transfer and wait of the kernel does to the device's holdings, once for every
distance. -/

@[expose] public section

noncomputable section

namespace Cert.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop pointsTo_toks)
open Idealize.ShloMosaic.Pipeline (Dat Cfg Window BodyObligation cellOf)

variable {F : FTy → Type} [FloatOps F]

local notation "𝕄" => MT nD τ sig Unit (Elt F) ℕ UU ℕ

abbrev 𝒱₀ : Variants := Variants.none

/-- The weakest precondition of a program of device `c`. -/
abbrev wpc {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-! ## Runs of distances -/

/-- The distances from `n` on. -/
def rem (n : ℕ) : Finset (Fin 15) := Finset.univ.filter fun k => n ≤ k.val

theorem rem_zero : rem 0 = Finset.univ := by unfold rem; simp
theorem rem_last : rem 15 = ∅ := by
  unfold rem; ext k; have := k.isLt; simp
theorem rem_succ (n : ℕ) (h : n < 15) : rem n = insert ⟨n, h⟩ (rem (n + 1)) := by
  ext k; simp only [rem, Finset.mem_filter, Finset.mem_univ, true_and, Finset.mem_insert, Fin.ext_iff]; omega
theorem notMem_rem (n : ℕ) (h : n < 15) : (⟨n, h⟩ : Fin 15) ∉ rem (n + 1) := by
  simp only [rem, Finset.mem_filter, Finset.mem_univ, true_and]; omega

/-- The distances to the devices from `n` on. -/
def remT (c : Dev nD) (n : ℕ) : Finset (Fin 15) := Finset.univ.filter fun k => n ≤ (fwd c k).val

theorem remT_zero (c : Dev nD) : remT c 0 = Finset.univ := by unfold remT; simp
theorem remT_last (c : Dev nD) : remT c 16 = ∅ := by
  unfold remT; ext k; have : (fwd c k).val < 16 := (fwd c k).isLt; simp
theorem remT_self (c : Dev nD) : remT c c.val = remT c (c.val + 1) := by
  ext k; simp only [remT, Finset.mem_filter, Finset.mem_univ, true_and]
  have : (fwd c k).val ≠ c.val := fun h => fwd_ne c k (Fin.ext h)
  omega
theorem remT_succ (c t : Dev nD) (h : t ≠ c) : remT c t.val = insert (dist c t) (remT c (t.val + 1)) := by
  ext k; simp only [remT, Finset.mem_filter, Finset.mem_univ, true_and, Finset.mem_insert]
  have h1 := fwd_dist h
  constructor
  · intro h2
    rcases Nat.eq_or_lt_of_le h2 with h3 | h3
    · exact .inl (fwd_inj (by rw [h1]; exact (Fin.ext h3).symm))
    · exact .inr h3
  · rintro (h2 | h2)
    · rw [h2, h1]
    · omega
theorem notMem_remT (c t : Dev nD) (h : t ≠ c) : dist c t ∉ remT c (t.val + 1) := by
  simp only [remT, Finset.mem_filter, Finset.mem_univ, true_and]; rw [fwd_dist h]; omega

/-- What is done once one more distance is. -/
theorem done_insert {S S' : Finset (Fin 15)} {k : Fin 15} (hS : S = insert k S') (hk : k ∉ S') :
    Finset.univ \ S' = insert k (Finset.univ \ S) ∧ k ∉ Finset.univ \ S := by
  subst hS
  refine ⟨?_, by simp⟩
  ext j; simp only [Finset.mem_sdiff, Finset.mem_univ, true_and, Finset.mem_insert, not_or]
  constructor
  · intro h; rcases eq_or_ne j k with rfl | h'
    · exact .inl rfl
    · exact .inr ⟨h', h⟩
  · rintro (rfl | h)
    · exact hk
    · exact h.2

omit [FloatOps F] in
theorem bs_insert {S : Finset (Fin 15)} {k : Fin 15} (h : k ∉ S) (Φ : Fin 15 → sProp 𝕄) :
    bigSep (insert k S) Φ = iprop(Φ k ∗ bigSep S Φ) := bigSep_insert h

/-! ## The records -/

variable (P : Dev nD → Vec F S768x768 .bf16) (K : Dev nD × CI → ℕ)

/-- Every cell's invariant and that its round has begun; and the order of the waits. -/
@[irreducible] def records : sProp 𝕄 :=
  iprop((bigSep Finset.univ fun ck : Dev nD × CI => cellInv ER (sched P) (K ck) (kcell ck))
    ∗ bigSep Finset.univ fun ck : Dev nD × CI => reached ER (kcell ck) 0)
@[irreducible] def env : sProp 𝕄 := iprop(records P K ∗ levels)

instance records_persistent : BI.Persistent (records P K) := by unfold records; infer_instance
instance env_persistent : BI.Persistent (env P K) := by unfold env; infer_instance

theorem env_inv (c : Dev nD) (i : CI) : env P K ⊢ cellInv ER (sched P) (K (c, i)) (kcell (c, i)) := by
  unfold env records; iintro ⟨⟨H, -⟩, -⟩; iapply (show _ ⊢ _ from bigSep_elim (Φ := fun ck : Dev nD × CI => cellInv ER (sched P) (K ck) (kcell ck)) (Finset.mem_univ (c, i))); iexact H
theorem env_reached (c : Dev nD) (i : CI) : env P K ⊢ reached ER (kcell (c, i)) 0 := by
  unfold env records; iintro ⟨⟨-, H⟩, -⟩
  iapply (show _ ⊢ _ from bigSep_elim (Φ := fun ck : Dev nD × CI => (reached ER (kcell ck) 0 : sProp 𝕄)) (Finset.mem_univ (c, i))); iexact H
theorem env_lev : env P K ⊢ levels (F := F) := by
  unfold env; iintro ⟨-, H⟩; iexact H

/-- What a device owes, whatever it has waited for. -/
def owesE (c : Dev nD) (O : CellTallies nD τ sig Unit) : sProp 𝕄 := iprop(∃ W, owes (c : Thread nD τ) O W)

/-! ## The barrier -/

/-- Before signal `n`: the tokens and the payments of the signals to come. -/
def sigSt (c : Dev nD) (n : ℕ) : sProp 𝕄 :=
  iprop(owesE c (owQ 3 c Finset.univ + owQ 1 c Finset.univ + owBar c (rem n))
    ∗ bigSep (rem n) fun k => iprop(dutyTok ER (barCell (fwd c k)) 0 k ∗ barPay (fwd c k) k))

theorem sig_step (c : Dev nD) (n : ℕ) (h : n < 15) {d : Dev nD} (hd : d = fwd c ⟨n, h⟩) {α : Type} {Q : α → sProp 𝕄} {k : PUnit → Prog (TpuEff nD τ sig (Elt F) Λ₀ .tc) α} :
    env P K ⊢ iprop(sigSt c n -∗ (sigSt c (n + 1) -∗ wpc c (k ⟨⟩) Q) -∗ wpc c (.op (.semSignal (d : Thread nD τ) barS 1) k) Q) := by
  subst hd
  unfold sigSt owesE
  rw [rem_succ n h, owBar_insert c (notMem_rem n h), bs_insert (notMem_rem n h)]
  iintro #He ⟨⟨%W, HO⟩, ⟨Ht, Hp⟩, Hrest⟩ Hk
  iapply (Rounds.wp_signal 𝒱₀ ER (sched P) (c : Thread nD τ) none (dst := (fwd c ⟨n, h⟩ : Thread nD τ)) (κ := K (fwd c ⟨n, h⟩, none)) (r := 0)
      (d := ⟨n, h⟩) (by rw [duties_bar]; exact Finset.mem_univ _) (amount_bar P _ _) () _ (add_assoc _ _ _).symm) $$ [HO Ht Hp]
  · isplitr; · iapply (env_inv P K (fwd c ⟨n, h⟩) none) $$ He
    isplitl [HO]; · iexact HO
    isplitl [Ht]; · iexact Ht
    isplitl [Hp]; · rw [payload_bar]; iexact Hp
    iapply (env_reached P K (fwd c ⟨n, h⟩) none) $$ He
  iintro HO
  iapply Hk
  isplitl [HO]; · iexists W; iexact HO
  iexact Hrest

/-- The wait for all fifteen, after which the barrier is closed. -/
theorem bar_wait (c : Dev nD) (O : CellTallies nD τ sig Unit) (hO : levels (F := F) ⊢ MayWait (c : Thread nD τ) (.reg barS) () O)
    {α : Type} {Q : α → sProp 𝕄} {k : PUnit → Prog (TpuEff nD τ sig (Elt F) Λ₀ .tc) α} :
    env P K ⊢ iprop(owesE c O -∗ cred (tallyAt (barCell c) () 15) -∗ atPos ER (barCell c) 0 ∅ 0
      -∗ ((owesE c O ∗ semVal (barCell c) 0 ∗ bigSep Finset.univ fun d => barPay c d) -∗ wpc c (k ⟨⟩) Q)
      -∗ wpc c (.op (.semWait barS 15) k) Q) := by
  unfold owesE
  iintro #He ⟨%W, HO⟩ Hc Hat Hk
  iapply (Rounds.wp_wait_rest_token 𝒱₀ ER (sched P) (c : Thread nD τ) none (κ := K (c, none))
      (wpE_semWait_eq 𝒱₀ (c : Thread nD τ) none Set.univ) (Set.mem_univ _) () (O := O) (W := W) (R := 0) (m := 0) (T := ∅)
      (by rw [Nat.zero_add, expect_bar])) $$ [Hc HO Hat]
  · isplitr; · iapply (env_inv P K c none) $$ He
    isplitl [Hc]; · iexact Hc
    isplitl [HO]; · iexact HO
    isplitr; · iapply ((env_lev P K).trans hO); iexact He
    iexact Hat
  iintro ⟨HO, Hat, -, Hpay⟩
  ihave Hp := (Entails.of_eq (rest_bar P c)) $$ Hpay
  imod (Rounds.cell_close ER (sched P) (Set.mem_univ (K (c, none))) (fun h => h) (R := 0 + 1) (duties_later P (barCell c))) $$ [Hat] with Hz
  · isplitr; · iapply (env_inv P K c none) $$ He
    iexact Hat
  iapply Hk
  isplitl [HO]; · iexists _; iexact HO
  isplitl [Hz]; · iexact Hz
  iexact Hp

/-! ## Waits for transfers -/

/-- Before the wait `n` on array `a`: the credits of the waits to come, and what has come with those made. -/
def wSt (c : Dev nD) (a : Fin 4) (n : ℕ) : sProp 𝕄 :=
  iprop((bigSep (rem n) fun k => iprop(cred (tallyAt (qCell c a k) () N) ∗ atPos ER (qCell c a k) 0 ∅ 0))
    ∗ bigSep (Finset.univ \ rem n) fun k => iprop(xferPay P c (a.val, k) ∗ semVal (qCell c a k) 0))

theorem wait_step (c : Dev nD) (a : Fin 4) (n : ℕ) (h : n < 15) (O : CellTallies nD τ sig Unit)
    (hO : levels (F := F) ⊢ MayWait (c : Thread nD τ) (.dma (qsem a ⟨n, h⟩)) () O)
    {sm : DmaSem sig} (hsm : sm = qsem a ⟨n, h⟩) {s s' : Shape} {e e' : EltTy} {sp sp' : Space} {src : Memref sig .tc sp s e} {dst : Memref sig .tc sp' s' e'}
    {h1 : src.view.WordExact} {h2 : dst.view.WordExact} (hN : dst.view.dmaCredit = N) {α : Type} {Q : α → sProp 𝕄} {k : PUnit → Prog (TpuEff nD τ sig (Elt F) Λ₀ .tc) α} :
    env P K ⊢ iprop(owesE c O -∗ wSt P c a n -∗ ((owesE c O ∗ wSt P c a (n + 1)) -∗ wpc c (k ⟨⟩) Q)
      -∗ wpc c (.op (.waitDma2 sm src dst h1 h2) k) Q) := by
  subst hsm
  unfold owesE wSt
  obtain ⟨hd1, hd2⟩ := done_insert (rem_succ n h) (notMem_rem n h)
  rw [hd1, bs_insert hd2, rem_succ n h, bs_insert (notMem_rem n h), ← rem_succ n h]
  iintro #He ⟨%W, HO⟩ ⟨⟨⟨Hc, Hat⟩, Hrest⟩, Hdone⟩ Hk
  iapply (Rounds.wp_wait_rest_token 𝒱₀ ER (sched P) (c : Thread nD τ) none (κ := K (c, some (a, ⟨n, h⟩)))
      (wpE_waitDma2_eq 𝒱₀ (c : Thread nD τ) none Set.univ) (Set.mem_univ _) () (O := O) (W := W) (R := 0) (m := 0) (T := ∅)
      (by rw [Nat.zero_add, expect_q, hN])) $$ [Hc HO Hat]
  · isplitr; · iapply (env_inv P K c (some (a, ⟨n, h⟩))) $$ He
    isplitl [Hc]; · rw [hN]; iexact Hc
    isplitl [HO]; · iexact HO
    isplitr; · iapply ((env_lev P K).trans hO); iexact He
    iexact Hat
  iintro ⟨HO, Hat, -, Hpay⟩
  ihave Hp := (Entails.of_eq (rest_q P c a ⟨n, h⟩)) $$ Hpay
  imod (Rounds.cell_close ER (sched P) (Set.mem_univ (K (c, some (a, ⟨n, h⟩)))) (fun h => h) (R := 0 + 1) (duties_later P (qCell c a ⟨n, h⟩))) $$ [Hat] with Hz
  · isplitr; · iapply (env_inv P K c (some (a, ⟨n, h⟩))) $$ He
    iexact Hat
  iapply Hk
  isplitl [HO]; · iexists _; iexact HO
  isplitl [Hrest]; · iexact Hrest
  isplitl [Hp Hz]
  · isplitl [Hp]; · iexact Hp
    iexact Hz
  iexact Hdone

end Cert.Mlp

end
-- ==== Proof.Send.lean ====
module

public import proofs.«01_k».proof.Proof.Steps

/-! # The two kinds of transfer

A chunk of the partial product goes to the device that reduces it; a reduced chunk goes to every
other device. Both are stated once, for every destination. -/

@[expose] public section

noncomputable section

namespace Cert.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop pointsTo_toks)
open Idealize.ShloMosaic.Pipeline (Dat Cfg Window BodyObligation cellOf)

variable {F : FTy → Type} [FloatOps F]

local notation "𝕄" => MT nD τ sig Unit (Elt F) ℕ UU ℕ

variable (P : Dev nD → Vec F S768x768 .bf16) (K : Dev nD × CI → ℕ)

/-! ## The elements the views cover -/

theorem set_st (off : Fin 2 → ℕ) (inb : ∀ a, off a + S48x768.size a ≤ S768x768.size a) (hr) (t : Dev nD) (hoff : off = ![48 * t.val, 0]) :
    (stM.slice (Rect.unit (s := S768x768) off S48x768.size inb) hr : Memref sig .tc .vmem S48x768 .bf16).view.set = chunk t :=
  (View.set_slice_whole cc0_scratch0 _).trans (rect_chunk off inb t hoff)
theorem set_ag (off : Fin 2 → ℕ) (inb : ∀ a, off a + S48x768.size a ≤ S768x768.size a) (hr) (t : Dev nD) (hoff : off = ![48 * t.val, 0]) :
    (agM.slice (Rect.unit (s := S768x768) off S48x768.size inb) hr : Memref sig .tc .vmem S48x768 .bf16).view.set = chunk t :=
  (View.set_slice_whole cc0_scratch2 _).trans (rect_chunk off inb t hoff)
theorem set_slot (off : Fin 3 → ℕ) (inb : ∀ a, off a + S1x48x768.size a ≤ S15x48x768.size a) (hr) (hsq : S1x48x768.Squeezes S48x768)
    (k : Fin 15) (hoff : off = ![k.val, 0, 0]) :
    ((rsM.slice (Rect.unit (s := S15x48x768) off S1x48x768.size inb) hr).squeeze S48x768 hsq : Memref sig .tc .vmem S48x768 .bf16).view.set = slot k := by
  subst hoff
  exact (View.set_reshape (v := ((rsM : Memref sig .tc .vmem S15x48x768 .bf16).view.slice (Rect.unit (s := S15x48x768) ![k.val, 0, 0] S1x48x768.size inb))) _).trans
    ((View.set_slice_whole cc0_scratch1 _).trans (rect_slot _ inb k rfl rfl rfl))

/-! ## Chunks of the partial product to their reducers -/

/-- The partial product's rows: the own chunk once it is passed over, the rows stored and not yet sent (from chunk `n`
    up to row `m`), and the rows to store. -/
def stg (c : Dev nD) (n m : ℕ) : sProp 𝕄 :=
  iprop((if c.val < n then stPts c (48 * c.val) (48 * (c.val + 1)) (P c) else emp) ∗ stPts c (48 * n) m (P c) ∗ ∃ f, stPts c m 768 f)

/-- Before the transfer to device `n`: what is owed, the tokens and the slots of the transfers to come, the credits of
    those made. -/
def rsSt (c : Dev nD) (n m : ℕ) : sProp 𝕄 :=
  iprop(owesE c (owQ 3 c Finset.univ + owQ 1 c (remT c n) + owBar c ∅)
    ∗ (bigSep (remT c n) fun k => iprop(dutyTok ER (qCell (fwd c k) 1 k) 0 0 ∗ dutyTok ER (qCell c 0 k) 0 0 ∗ ∃ f, slotPts (fwd c k) k f))
    ∗ (bigSep (Finset.univ \ remT c n) fun k => cred (tallyAt (qCell c 0 k) () N))
    ∗ stg P c n m)

theorem stPts_split (c : Dev nD) {a m b : ℕ} (h₁ : a ≤ m) (h₂ : m ≤ b) (f : Vec F S768x768 .bf16) :
    stPts c a b f ⊢ iprop(stPts c a m f ∗ stPts c m b f) := by
  unfold stPts; rw [rows_union h₁ h₂]; exact (pointsTo_union rows_disjoint).1

theorem stPts_merge (c : Dev nD) {a m b : ℕ} (h₁ : a ≤ m) (h₂ : m ≤ b) (f : Vec F S768x768 .bf16) :
    iprop(stPts c a m f ∗ stPts c m b f) ⊢ stPts c a b f := by
  unfold stPts; rw [rows_union h₁ h₂]; exact (pointsTo_union rows_disjoint).2

/-- A device's own chunk stays. -/
theorem rs_skip (c : Dev nD) (m : ℕ) (hm : 48 * (c.val + 1) ≤ m) : rsSt P c c.val m ⊢ rsSt P c (c.val + 1) m := by
  unfold rsSt stg
  rw [← remT_self c, if_neg (lt_irrefl _), if_pos (Nat.lt_succ_self _)]
  iintro ⟨HO, Ht, Hc, -, Hst, Hr⟩
  icases (stPts_split c (by omega : 48 * c.val ≤ 48 * (c.val + 1)) hm (P c)) $$ Hst with ⟨H1, H2⟩
  isplitl [HO]; · iexact HO
  isplitl [Ht]; · iexact Ht
  isplitl [Hc]; · iexact Hc
  isplitl [H1]; · iexact H1
  isplitl [H2]; · iexact H2
  iexact Hr

set_option maxHeartbeats 1000000 in
theorem rs_send (c t : Dev nD) (ht : t ≠ c) (m : ℕ) (hm : 48 * (t.val + 1) ≤ m) {d : Dev nD} (hd : d = t)
    {s₁ s₂ : DmaSem sig} (hs₁ : s₁ = qsem 0 (dist c t)) (hs₂ : s₂ = qsem 1 (dist c t))
    {off : Fin 2 → ℕ} {inb : ∀ a, off a + S48x768.size a ≤ S768x768.size a} {hr} (hoff : off = ![48 * t.val, 0])
    {off' : Fin 3 → ℕ} {inb' : ∀ a, off' a + S1x48x768.size a ≤ S15x48x768.size a} {hr'} {hsq : S1x48x768.Squeezes S48x768} (hoff' : off' = ![(dist c t).val, 0, 0])
    {hsc hsrc hdst hsem} {α : Type} {Q : α → sProp 𝕄} {k : PUnit → Prog (TpuEff nD τ sig (Elt F) Λ₀ .tc) α} :
    env P K ⊢ iprop(rsSt P c t.val m -∗ (rsSt P c (t.val + 1) m -∗ wpc c (k ⟨⟩) Q)
      -∗ wpc c (.op (.enqueueDma (stM.slice (Rect.unit (s := S768x768) off S48x768.size inb) hr : Memref sig .tc .vmem S48x768 .bf16)
          (.remote (Dev.tc d : Thread nD τ) ((rsM.slice (Rect.unit (s := S15x48x768) off' S1x48x768.size inb') hr').squeeze S48x768 hsq : Memref sig .tc .vmem S48x768 .bf16) (.dma s₁) hsc)
          (.dma s₂) hsrc hdst hsem) k) Q) := by
  subst hd hs₁ hs₂
  have hv : d.val ≠ c.val := fun h => ht (Fin.ext h)
  obtain ⟨hd1, hd2⟩ := done_insert (remT_succ c d ht) (notMem_remT c d ht)
  unfold rsSt stg owesE
  rw [hd1, bs_insert hd2, remT_succ c d ht, bs_insert (notMem_remT c d ht), owQ_insert 1 c (notMem_remT c d ht), ← remT_succ c d ht, fwd_dist ht]
  have hown : (if c.val < d.val + 1 then stPts c (48 * c.val) (48 * (c.val + 1)) (P c) else (iprop(emp) : sProp 𝕄))
      = (if c.val < d.val then stPts c (48 * c.val) (48 * (c.val + 1)) (P c) else (iprop(emp) : sProp 𝕄)) := by
    by_cases h : c.val < d.val
    · rw [if_pos h, if_pos (Nat.lt_succ_of_lt h)]
    · rw [if_neg h, if_neg (by omega)]
  rw [hown]
  have hO : owQ 3 c Finset.univ + (owQ 1 c (remT c (d.val + 1)) + tallyAt (qCell d 1 (dist c d)) () N) + owBar c ∅
      = (owQ 3 c Finset.univ + owQ 1 c (remT c (d.val + 1)) + owBar c ∅) + tallyAt (qCell d 1 (dist c d)) () N := by
    rw [owBar_empty, add_zero, add_zero, add_assoc]
  iintro #He ⟨⟨%W, HO⟩, ⟨⟨Ht1, Ht0, ⟨%f, Hslot⟩⟩, Ht⟩, Hc, Hown, Hst, Hr⟩ Hk
  icases (stPts_split c (by omega : 48 * d.val ≤ 48 * (d.val + 1)) hm (P c)) $$ Hst with ⟨H1, H2⟩
  iapply (Rounds.wp_send_pointsTo 𝒱₀ ER (sched P) (c : Thread nD τ) none
    (c' := (d : Thread nD τ)) (s := S48x768) (src := (stM.slice (Rect.unit (s := S768x768) off S48x768.size inb) hr : Memref sig .tc .vmem S48x768 .bf16))
    (dst := ((rsM.slice (Rect.unit (s := S15x48x768) off' S1x48x768.size inb') hr').squeeze S48x768 hsq : Memref sig .tc .vmem S48x768 .bf16)) (κ₁ := K (c, some (0, dist c d))) (κ₂ := K (d, some (1, dist c d)))
    (r₁ := 0) (r₂ := 0) (d₁ := 0) (d₂ := 0) (q := fullShare) (fs := P c) (fd := f)
    (by rw [duties_q]; exact Finset.mem_singleton_self _) (by rw [duties_q]; exact Finset.mem_singleton_self _)
    () () N (by rfl) (amount_q P c 0 _ 0) (amount_q P d 1 _ 0) (owQ 3 c Finset.univ + owQ 1 c (remT c (d.val + 1)) + owBar c ∅)
    hO (W := W)
    (by rw [payload_q, set_st off inb hr d hoff]; show _ ⊢ iprop(∃ f, stPts c (48 * (fwd c (dist c d)).val) (48 * ((fwd c (dist c d)).val + 1)) f); rw [fwd_dist ht]; unfold stPts; iintro H; iexists (P c); iexact H)
    (by
      rw [payload_q, set_slot off' inb' hr' hsq _ hoff']
      show _ ⊢ slotPts d (dist c d) (rsOf P d)
      unfold slotPts
      refine Entails.of_eq (pointsTo_congr fun i hi => ?_)
      exact write_slot P off' inb' hsq hr' (dist c d) hoff' c d (fwd_dist ht).symm f _ (read_st_chunk off inb d hoff (P c)) hi)) $$ [H1 Hslot HO Ht1 Ht0]
  · isplitr; · iapply (env_inv P K c (some (0, dist c d))) $$ He
    isplitr; · iapply (env_inv P K d (some (1, dist c d))) $$ He
    isplitl [H1]; · rw [set_st off inb hr d hoff]; unfold stPts; iexact H1
    isplitl [Hslot]; · rw [set_slot off' inb' hr' hsq _ hoff']; unfold slotPts; iexact Hslot
    isplitl [HO]; · iexact HO
    isplitl [Ht0]; · iexact Ht0
    isplitr; · iapply (env_reached P K c (some (0, dist c d))) $$ He
    isplitl [Ht1]; · iexact Ht1
    iapply (env_reached P K d (some (1, dist c d))) $$ He
  iintro ⟨Hcr, HO⟩
  iapply Hk
  isplitl [HO]; · iexists W; iexact HO
  isplitl [Ht]; · iexact Ht
  isplitl [Hcr Hc]
  · isplitl [Hcr]; · iexact Hcr
    iexact Hc
  isplitl [Hown]; · iexact Hown
  isplitl [H2]; · iexact H2
  iexact Hr

/-- The transfer to device `t`, or nothing when that is the device itself. -/
theorem rs_step (c t : Dev nD) (m : ℕ) (hm : 48 * (t.val + 1) ≤ m) {p : Prop} [Decidable p] (hp : p ↔ t ≠ c) {α : Type} {Q : α → sProp 𝕄}
    {A : p → Prog (TpuEff nD τ sig (Elt F) Λ₀ .tc) PUnit} {k : PUnit → Prog (TpuEff nD τ sig (Elt F) Λ₀ .tc) α}
    (hA : ∀ h : p, env P K ⊢ iprop(rsSt P c t.val m -∗ (rsSt P c (t.val + 1) m -∗ wpc c (k ⟨⟩) Q) -∗ wpc c ((A h).bind k) Q)) :
    env P K ⊢ iprop(rsSt P c t.val m -∗ (rsSt P c (t.val + 1) m -∗ wpc c (k ⟨⟩) Q)
      -∗ wpc c (Prog.bind (if h : p then A h else .ret ⟨⟩) k) Q) := by
  by_cases h : p
  · rw [dif_pos h]; exact hA h
  · rw [dif_neg h]
    have ht : t = c := not_not.mp fun h' => h (hp.mpr h')
    subst ht
    iintro - H Hk
    iapply Hk
    iapply (rs_skip P t m hm); iexact H

/-! ## The reduced chunk to every other device -/

/-- Before the transfer at distance `n`. -/
def agSt (c : Dev nD) (n : ℕ) : sProp 𝕄 :=
  iprop(owesE c (owQ 3 c (rem n) + owQ 1 c ∅ + owBar c ∅)
    ∗ (bigSep (rem n) fun k => iprop(dutyTok ER (qCell (fwd c k) 3 k) 0 0 ∗ dutyTok ER (qCell c 2 k) 0 0
        ∗ agPts c (shareTok fullShare 15 k) c (agOf P) ∗ ∃ f, agPts (fwd c k) fullShare c f))
    ∗ (bigSep (Finset.univ \ rem n) fun k => cred (tallyAt (qCell c 2 k) () N)))

set_option maxHeartbeats 1000000 in
theorem ag_send (c : Dev nD) (n : ℕ) (h : n < 15) {d : Dev nD} (hd : d = fwd c ⟨n, h⟩)
    {s₁ s₂ : DmaSem sig} (hs₁ : s₁ = qsem 2 ⟨n, h⟩) (hs₂ : s₂ = qsem 3 ⟨n, h⟩)
    {off : Fin 2 → ℕ} {inb : ∀ a, off a + S48x768.size a ≤ S768x768.size a} {hr} (hoff : off = ![48 * c.val, 0])
    {off' : Fin 2 → ℕ} {inb' : ∀ a, off' a + S48x768.size a ≤ S768x768.size a} {hr'} (hoff' : off' = ![48 * c.val, 0])
    {hsc hsrc hdst hsem} {α : Type} {Q : α → sProp 𝕄} {k : PUnit → Prog (TpuEff nD τ sig (Elt F) Λ₀ .tc) α} :
    env P K ⊢ iprop(agSt P c n -∗ (agSt P c (n + 1) -∗ wpc c (k ⟨⟩) Q)
      -∗ wpc c (.op (.enqueueDma (agM.slice (Rect.unit (s := S768x768) off S48x768.size inb) hr : Memref sig .tc .vmem S48x768 .bf16)
          (.remote (Dev.tc d : Thread nD τ) (agM.slice (Rect.unit (s := S768x768) off' S48x768.size inb') hr' : Memref sig .tc .vmem S48x768 .bf16) (.dma s₁) hsc)
          (.dma s₂) hsrc hdst hsem) k) Q) := by
  subst hd hs₁ hs₂
  obtain ⟨hd1, hd2⟩ := done_insert (rem_succ n h) (notMem_rem n h)
  unfold agSt owesE
  rw [hd1, bs_insert hd2, rem_succ n h, bs_insert (notMem_rem n h), owQ_insert 3 c (notMem_rem n h), ← rem_succ n h]
  have hO : (owQ 3 c (rem (n + 1)) + tallyAt (qCell (fwd c ⟨n, h⟩) 3 ⟨n, h⟩) () N) + owQ 1 c ∅ + owBar c ∅
      = (owQ 3 c (rem (n + 1)) + owQ 1 c ∅ + owBar c ∅) + tallyAt (qCell (fwd c ⟨n, h⟩) 3 ⟨n, h⟩) () N := by
    rw [owBar_empty, owQ_empty, add_zero, add_zero, add_zero, add_zero]
  iintro #He ⟨⟨%W, HO⟩, ⟨⟨Ht3, Ht2, Hown, ⟨%f, Hroom⟩⟩, Ht⟩, Hc⟩ Hk
  iapply (Rounds.wp_send_pointsTo 𝒱₀ ER (sched P) (c : Thread nD τ) none
    (c' := (fwd c ⟨n, h⟩ : Thread nD τ)) (s := S48x768) (src := (agM.slice (Rect.unit (s := S768x768) off S48x768.size inb) hr : Memref sig .tc .vmem S48x768 .bf16))
    (dst := (agM.slice (Rect.unit (s := S768x768) off' S48x768.size inb') hr' : Memref sig .tc .vmem S48x768 .bf16)) (κ₁ := K (c, some (2, ⟨n, h⟩))) (κ₂ := K (fwd c ⟨n, h⟩, some (3, ⟨n, h⟩)))
    (r₁ := 0) (r₂ := 0) (d₁ := 0) (d₂ := 0) (q := shareTok fullShare 15 ⟨n, h⟩) (fs := agOf P) (fd := f)
    (by rw [duties_q]; exact Finset.mem_singleton_self _) (by rw [duties_q]; exact Finset.mem_singleton_self _)
    () () N (by rfl) (amount_q P c 2 _ 0) (amount_q P _ 3 _ 0) (owQ 3 c (rem (n + 1)) + owQ 1 c ∅ + owBar c ∅)
    hO (W := W)
    (by rw [payload_q, set_ag off inb hr c hoff]; exact BI.Entails.refl _)
    (by
      rw [payload_q, set_ag off' inb' hr' c hoff']
      show _ ⊢ agPts (fwd c ⟨n, h⟩) fullShare (bwd (fwd c ⟨n, h⟩) ⟨n, h⟩) (agOf P)
      rw [bwd_fwd]
      unfold agPts
      refine Entails.of_eq (pointsTo_congr fun i hi => ?_)
      exact write_ag_chunk off' inb' c hoff' f (agOf P) _ (read_ag_chunk off inb c hoff (agOf P)) hi)) $$ [Hown Hroom HO Ht3 Ht2]
  · isplitr; · iapply (env_inv P K c (some (2, ⟨n, h⟩))) $$ He
    isplitr; · iapply (env_inv P K (fwd c ⟨n, h⟩) (some (3, ⟨n, h⟩))) $$ He
    isplitl [Hown]; · rw [set_ag off inb hr c hoff]; unfold agPts; iexact Hown
    isplitl [Hroom]; · rw [set_ag off' inb' hr' c hoff']; unfold agPts; iexact Hroom
    isplitl [HO]; · iexact HO
    isplitl [Ht2]; · iexact Ht2
    isplitr; · iapply (env_reached P K c (some (2, ⟨n, h⟩))) $$ He
    isplitl [Ht3]; · iexact Ht3
    iapply (env_reached P K (fwd c ⟨n, h⟩) (some (3, ⟨n, h⟩))) $$ He
  iintro ⟨Hcr, HO⟩
  iapply Hk
  isplitl [HO]; · iexists W; iexact HO
  isplitl [Ht]; · iexact Ht
  isplitl [Hcr]; · iexact Hcr
  iexact Hc

end Cert.Mlp

end
-- ==== Proof.Phases.lean ====
module

public import proofs.«01_k».proof.Proof.Send
public import Idealize.ShloMosaic.Lib.Ring

/-! # Between the phases of a device's run

How the holdings regroup when a run of signals, transfers or waits is over, and the loads and
stores. -/

@[expose] public section

noncomputable section

namespace Cert.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop pointsTo_toks)
open Idealize.ShloMosaic.Pipeline (Dat Cfg Window BodyObligation cellOf)

variable {F : FTy → Type} [FloatOps F]

local notation "𝕄" => MT nD τ sig Unit (Elt F) ℕ UU ℕ

variable (P : Dev nD → Vec F S768x768 .bf16) (K : Dev nD × CI → ℕ)

/-! ## Families over distances and over devices -/

omit [FloatOps F] in
theorem bs_sep {I : Type} [DecidableEq I] (S : Finset I) (Φ Ψ : I → sProp 𝕄) : (bigSep S fun k => iprop(Φ k ∗ Ψ k)) = iprop(bigSep S Φ ∗ bigSep S Ψ) := bigSep_sep S Φ Ψ
omit [FloatOps F] in
theorem bs_empty (Φ : Fin 15 → sProp 𝕄) : bigSep ∅ Φ = (iprop(emp) : sProp 𝕄) := bigSep_empty
omit [FloatOps F] in
theorem bs_mirror (Φ : Fin 15 → sProp 𝕄) : bigSep Finset.univ Φ = bigSep Finset.univ fun k => Φ (opp k) := bigSep_univ_equiv mirror Φ

omit [FloatOps F] in
theorem to_ex {A : Type} (Φ : A → sProp 𝕄) (a : A) : Φ a ⊢ (iprop(∃ x, Φ x) : sProp 𝕄) := by iintro H; iexists a; iexact H

/-- A device and the fifteen after it are all devices; so are a device and the fifteen before it. -/
theorem erase_fwd (c : Dev nD) : (Finset.univ : Finset (Dev nD)).erase c = Finset.univ.map ⟨fwd c, fun _ _ h => fwd_inj h⟩ := by
  ext t; simp only [Finset.mem_erase, Finset.mem_univ, and_true, Finset.mem_map, Function.Embedding.coeFn_mk, true_and]
  exact ⟨fun h => ⟨dist c t, fwd_dist h⟩, fun ⟨k, hk⟩ => hk ▸ fwd_ne c k⟩
omit [FloatOps F] in
theorem bs_fwd (c : Dev nD) (Φ : Dev nD → sProp 𝕄) : bigSep Finset.univ Φ = iprop(Φ c ∗ bigSep Finset.univ fun k => Φ (fwd c k)) := by
  rw [bigSep_erase (Finset.mem_univ c), erase_fwd, bigSep_map]; rfl
omit [FloatOps F] in
theorem bs_bwd (c : Dev nD) (Φ : Dev nD → sProp 𝕄) : bigSep Finset.univ Φ = iprop(Φ c ∗ bigSep Finset.univ fun k => Φ (bwd c k)) := by
  rw [bs_fwd c, bs_mirror]; simp only [fwd_opp]

/-! ## The buffers and their pieces -/

theorem rs_slots (c : Dev nD) (f : Vec F S15x48x768 .bf16) :
    ((((c : Thread nD τ).loc cc0_scratch1) ↦{fullShare} f : sProp 𝕄)) = bigSep Finset.univ fun k => slotPts c k f := by
  unfold slotPts; exact Ring.pointsTo_blocks (ℓ := (c : Thread nD τ).loc cc0_scratch1) slot slot_disjoint slot_cover f
theorem ag_chunks (c : Dev nD) (q : PosShare TreeShare) (f : Vec F S768x768 .bf16) :
    ((((c : Thread nD τ).loc cc0_scratch2) ↦{q} f : sProp 𝕄)) = bigSep Finset.univ fun t => agPts c q t f := by
  unfold agPts; exact Ring.pointsTo_blocks (ℓ := (c : Thread nD τ).loc cc0_scratch2) chunk chunk_disjoint chunk_cover f
theorem st_whole (c : Dev nD) (f : Vec F S768x768 .bf16) :
    ((((c : Thread nD τ).loc cc0_scratch0) ↦{fullShare} f : sProp 𝕄)) = stPts c 0 768 f := by
  unfold stPts; rw [rows_univ]
/-- The chunks of the partial product, each at contents of its own, are the buffer at some contents. -/
theorem st_chunks (c : Dev nD) (f₀ : Vec F S768x768 .bf16) :
    (bigSep Finset.univ fun t : Dev nD => iprop(∃ f, stPts c (48 * t.val) (48 * (t.val + 1)) f))
      ⊢ (iprop(∃ g, ((c : Thread nD τ).loc cc0_scratch0) ↦{fullShare} g) : sProp 𝕄) := by
  unfold stPts; exact Ring.pointsTo_blocks_join_exists (ℓ := (c : Thread nD τ).loc cc0_scratch0) chunk chunk_disjoint chunk_cover f₀

/-- The slots and rooms handed out with the signals, by the distance each signal goes. -/
theorem pays_out (c : Dev nD) (fr : Vec F S15x48x768 .bf16) (fa : Vec F S768x768 .bf16) :
    iprop((((c : Thread nD τ).loc cc0_scratch1) ↦{fullShare} fr) ∗ (((c : Thread nD τ).loc cc0_scratch2) ↦{fullShare} fa))
      ⊢ (iprop((∃ f, agPts c fullShare c f) ∗ bigSep Finset.univ fun k => barPay (fwd c k) k) : sProp 𝕄) := by
  rw [rs_slots, ag_chunks, bs_fwd c, bs_mirror]
  unfold barPay
  rw [bs_sep]
  simp only [bwd_fwd]
  iintro ⟨Hs, Ho, Ha⟩
  isplitl [Ho]; · iexists fa; iexact Ho
  isplitl [Hs]
  · iapply (show (bigSep Finset.univ fun k => slotPts c (opp k) fr) ⊢ (bigSep Finset.univ fun k => iprop(∃ f, slotPts c (opp k) f) : sProp 𝕄) from
      bigSep_mono fun k _ => to_ex (fun f => slotPts c (opp k) f) fr); iexact Hs
  · iapply (show (bigSep Finset.univ fun k => agPts c fullShare (fwd c k) fa) ⊢ (bigSep Finset.univ fun k => iprop(∃ f, agPts c fullShare (fwd c k) f) : sProp 𝕄) from
      bigSep_mono fun k _ => to_ex (fun f => agPts c fullShare (fwd c k) f) fa); iexact Ha

/-- What came with the signals received, by the distance to the device whose memory it is. -/
theorem pays_in (c : Dev nD) :
    (bigSep Finset.univ fun d => barPay c d)
      ⊢ (iprop((bigSep Finset.univ fun k => iprop(∃ f, slotPts (fwd c k) k f)) ∗ bigSep Finset.univ fun k => iprop(∃ f, agPts (fwd c k) fullShare c f)) : sProp 𝕄) := by
  rw [bs_mirror]
  unfold barPay
  rw [bs_sep]
  simp only [bwd_opp, opp_opp]
  exact Entails.refl _

/-! ## Starts and ends of the runs -/

theorem sig_start (c : Dev nD) :
    iprop(owesE c (O₀ c) ∗ (bigSep Finset.univ fun k => dutyTok ER (barCell (fwd c k)) 0 k) ∗ bigSep Finset.univ fun k => barPay (fwd c k) k)
      ⊢ (sigSt c 0 : sProp 𝕄) := by
  unfold sigSt O₀; rw [rem_zero, bs_sep]
theorem sig_end (c : Dev nD) : sigSt c 15 ⊢ (owesE c (owQ 3 c Finset.univ + owQ 1 c Finset.univ + owBar c ∅) : sProp 𝕄) := by
  unfold sigSt; rw [rem_last]; iintro ⟨H, -⟩; iexact H

theorem w_start (c : Dev nD) (a : Fin 4) :
    iprop((bigSep Finset.univ fun k => cred (tallyAt (qCell c a k) () N)) ∗ bigSep Finset.univ fun k => atPos ER (qCell c a k) 0 ∅ 0) ⊢ wSt P c a 0 := by
  unfold wSt; rw [rem_zero, Finset.sdiff_self, bs_empty, bs_sep]
  iintro H; isplitl; · iexact H
  iempintro
theorem w_end (c : Dev nD) (a : Fin 4) :
    wSt P c a 15 ⊢ iprop((bigSep Finset.univ fun k => xferPay P c (a.val, k)) ∗ bigSep Finset.univ fun k => semVal (qCell c a k) 0) := by
  unfold wSt; rw [rem_last, Finset.sdiff_empty, bs_sep Finset.univ]
  iintro ⟨-, H⟩; iexact H

theorem rs_start (c : Dev nD) (f : Vec F S768x768 .bf16) :
    iprop(owesE c (owQ 3 c Finset.univ + owQ 1 c Finset.univ + owBar c ∅)
      ∗ (bigSep Finset.univ fun k => dutyTok ER (qCell (fwd c k) 1 k) 0 0) ∗ (bigSep Finset.univ fun k => dutyTok ER (qCell c 0 k) 0 0)
      ∗ (bigSep Finset.univ fun k => iprop(∃ f, slotPts (fwd c k) k f)) ∗ stPts c 0 768 f)
      ⊢ rsSt P c 0 0 := by
  unfold rsSt stg; rw [remT_zero, Finset.sdiff_self, bs_empty, bs_sep, bs_sep, if_neg (Nat.not_lt_zero _)]
  iintro ⟨HO, H1, H0, Hs, Hst⟩
  isplitl [HO]; · iexact HO
  isplitl [H1 H0 Hs]
  · isplitl [H1]; · iexact H1
    isplitl [H0]; · iexact H0
    iexact Hs
  isplitr; · iempintro
  isplitr; · iempintro
  isplitr
  · unfold stPts; rw [rows_empty, pointsTo_empty]; iempintro
  iexists f; iexact Hst

theorem rs_end (c : Dev nD) :
    rsSt P c 16 768 ⊢ iprop(owesE c (owQ 3 c Finset.univ + owQ 1 c ∅ + owBar c ∅)
      ∗ (bigSep Finset.univ fun k => cred (tallyAt (qCell c 0 k) () N)) ∗ stPts c (48 * c.val) (48 * (c.val + 1)) (P c)) := by
  unfold rsSt stg; rw [remT_last, Finset.sdiff_empty, bs_empty, if_pos c.isLt]
  iintro ⟨HO, -, Hc, Hst, -⟩
  isplitl [HO]; · iexact HO
  isplitl [Hc]; · iexact Hc
  iexact Hst

/-- All slots have landed. -/
theorem rs_landed (c : Dev nD) :
    wSt P c 1 15 ⊢ iprop((((c : Thread nD τ).loc cc0_scratch1) ↦{fullShare} rsOf P c) ∗ bigSep Finset.univ fun k => semVal (qCell c 1 k) 0) := by
  rw [rs_slots]; exact w_end P c 1

/-- The stage is whole again once every chunk sent has come back. -/
theorem st_back (c : Dev nD) (f : Vec F S768x768 .bf16) :
    iprop(stPts c (48 * c.val) (48 * (c.val + 1)) f ∗ wSt P c 0 15)
      ⊢ iprop((∃ g, ((c : Thread nD τ).loc cc0_scratch0) ↦{fullShare} g) ∗ bigSep Finset.univ fun k => semVal (qCell c 0 k) 0) := by
  iintro ⟨Ho, Hw⟩
  icases (w_end P c 0) $$ Hw with ⟨Hp, Hz⟩
  isplitl [Ho Hp]
  · iapply (st_chunks c f)
    rw [bs_fwd c]
    isplitl [Ho]; · iexists f; iexact Ho
    iexact Hp
  · iexact Hz

theorem ag_start (c : Dev nD) :
    iprop(owesE c (owQ 3 c Finset.univ + owQ 1 c ∅ + owBar c ∅)
      ∗ (bigSep Finset.univ fun k => dutyTok ER (qCell (fwd c k) 3 k) 0 0) ∗ (bigSep Finset.univ fun k => dutyTok ER (qCell c 2 k) 0 0)
      ∗ (bigSep Finset.univ fun k => iprop(∃ f, agPts (fwd c k) fullShare c f)) ∗ agPts c fullShare c (agOf P))
      ⊢ iprop(agSt P c 0 ∗ agPts c (shareDrop fullShare 15) c (agOf P)) := by
  unfold agSt; rw [rem_zero, Finset.sdiff_self, bs_empty, bs_sep, bs_sep, bs_sep]
  iintro ⟨HO, H3, H2, Hr, Hown⟩
  unfold agPts
  icases (pointsTo_toks fullShare 15).1 $$ Hown with ⟨Hd, Ht⟩
  isplitr [Hd]
  · isplitl [HO]; · iexact HO
    isplitl [H3 H2 Hr Ht]
    · isplitl [H3]; · iexact H3
      isplitl [H2]; · iexact H2
      isplitl [Ht]; · iexact Ht
      iexact Hr
    · iempintro
  · iexact Hd

theorem ag_end (c : Dev nD) :
    agSt P c 15 ⊢ iprop(owesE c (owQ 3 c ∅ + owQ 1 c ∅ + owBar c ∅) ∗ bigSep Finset.univ fun k => cred (tallyAt (qCell c 2 k) () N)) := by
  unfold agSt; rw [rem_last, Finset.sdiff_empty, bs_empty]
  iintro ⟨HO, -, Hc⟩
  isplitl [HO]; · iexact HO
  iexact Hc

/-- The gathered array is whole, at the share the lent ones leave; the rest of the received chunks is kept aside. -/
theorem ag_landed (c : Dev nD) :
    iprop(agPts c (shareDrop fullShare 15) c (agOf P) ∗ wSt P c 3 15)
      ⊢ iprop((((c : Thread nD τ).loc cc0_scratch2) ↦{shareDrop fullShare 15} agOf P)
        ∗ (bigSep Finset.univ fun k => bigSep Finset.univ fun j => agPts c (shareTok fullShare 15 j) (bwd c k) (agOf P))
        ∗ bigSep Finset.univ fun k => semVal (qCell c 3 k) 0) := by
  have hs : (bigSep Finset.univ fun k => xferPay P c ((3 : Fin 4).val, k))
      ⊢ iprop((bigSep Finset.univ fun k => agPts c (shareDrop fullShare 15) (bwd c k) (agOf P))
        ∗ bigSep Finset.univ fun k => bigSep Finset.univ fun j => agPts c (shareTok fullShare 15 j) (bwd c k) (agOf P)) := by
    rw [← bs_sep]
    refine bigSep_mono fun k _ => ?_
    show agPts c fullShare (bwd c k) (agOf P) ⊢ _
    unfold agPts; exact (pointsTo_toks fullShare 15).1
  iintro ⟨Ho, Hw⟩
  icases (w_end P c 3) $$ Hw with ⟨Hp, Hz⟩
  icases hs $$ Hp with ⟨Hd, Ht⟩
  isplitl [Ho Hd]
  · rw [ag_chunks, bs_bwd c]
    isplitl [Ho]; · iexact Ho
    iexact Hd
  isplitl [Ht]; · iexact Ht
  iexact Hz

/-- The gathered array is held outright again once the lent shares are back. -/
theorem ag_back (c : Dev nD) :
    iprop((((c : Thread nD τ).loc cc0_scratch2) ↦{shareDrop fullShare 15} agOf P)
        ∗ (bigSep Finset.univ fun k => bigSep Finset.univ fun j => agPts c (shareTok fullShare 15 j) (bwd c k) (agOf P)) ∗ wSt P c 2 15)
      ⊢ iprop((((c : Thread nD τ).loc cc0_scratch2) ↦{fullShare} agOf P) ∗ bigSep Finset.univ fun k => semVal (qCell c 2 k) 0) := by
  have hj (t : Dev nD) : iprop(agPts c (shareDrop fullShare 15) t (agOf P) ∗ bigSep Finset.univ fun j => agPts c (shareTok fullShare 15 j) t (agOf P))
      ⊢ agPts c fullShare t (agOf P) := by
    unfold agPts; exact (pointsTo_toks fullShare 15).2
  iintro ⟨Hd, Ht, Hw⟩
  icases (w_end P c 2) $$ Hw with ⟨Hp, Hz⟩
  isplitr [Hz]
  · icases (Entails.of_eq ((ag_chunks c (shareDrop fullShare 15) (agOf P)).trans (bs_bwd c _))) $$ Hd with ⟨Ho, Hd⟩
    iapply (Entails.of_eq ((ag_chunks c fullShare (agOf P)).trans (bs_bwd c _)).symm)
    isplitl [Ho Hp]
    · iapply (hj c); isplitl [Ho]; · iexact Ho
      iexact Hp
    · iapply (show iprop((bigSep Finset.univ fun k => agPts c (shareDrop fullShare 15) (bwd c k) (agOf P))
          ∗ bigSep Finset.univ fun k => bigSep Finset.univ fun j => agPts c (shareTok fullShare 15 j) (bwd c k) (agOf P)) ⊢ _ from by
        rw [← bs_sep]; exact bigSep_mono fun k _ => hj (bwd c k))
      isplitl [Hd]; · iexact Hd
      iexact Ht
  · iexact Hz

/-! ## Loads and stores -/

/-- A block of the partial product is stored (after a load of the old rows, which nothing reads). -/
theorem st_block (c : Dev nD) (x : Vec F S768x768 .bf16) (g u : Vec F S768x1536 .bf16) (d : Vec F S1536x768 .bf16) (hP : P c = partialOf x g u d)
    (b : Fin 4) (n : ℕ) (hn : 48 * n ≤ 192 * b.val)
    {off : Fin 2 → ℕ} {inb : ∀ a, off a + S192x768.size a ≤ S768x768.size a} (hoff : off = ![192 * b.val, 0])
    {w : Vec F S192x768 .bf16} (hw : w = blkPay x g u d b) {hl hx hm} {α : Type} {Q : α → sProp 𝕄} {k : PUnit → Prog (TpuEff nD τ sig (Elt F) Λ₀ .tc) α} :
    rsSt P c n (192 * b.val) ⊢ iprop((rsSt P c n (192 * b.val + 192) -∗ wpc c (k ⟨⟩) Q)
      -∗ wpc c (.op (.load stM (Rect.unit (s := S768x768) off S192x768.size inb).toLoadRect hl) fun _ =>
          .op (.store stM (Rect.unit (s := S768x768) off S192x768.size inb) w Finset.univ hx hm) k) Q) := by
  have hset : ((stM : Memref sig .tc .vmem S768x768 .bf16).access (Rect.unit (s := S768x768) off S192x768.size inb)).set = rows (192 * b.val) (192 * b.val + 192) :=
    (View.set_slice_whole cc0_scratch0 _).trans (by subst hoff; exact rect_rows _ 192 inb rfl)
  have hb : 192 * b.val + 192 ≤ 768 := by omega
  have hmer := stPts_merge c hn (Nat.le_add_right _ 192) (P c)
  unfold stPts at hmer
  unfold rsSt stg
  iintro ⟨HO, Ht, Hc, Hown, Hst, ⟨%f, Hr⟩⟩ Hk
  icases (stPts_split c (Nat.le_add_right _ 192) hb f) $$ Hr with ⟨H1, H2⟩
  unfold stPts
  iapply (wp_load_rect 𝒱₀ (c : Thread nD τ) none Set.univ (m := stM) (r := Rect.unit (s := S768x768) off S192x768.size inb) (S := rows (192 * b.val) (192 * b.val + 192)) (q := fullShare) (f := f)
    hset.subset) $$ H1
  iintro H1
  iapply (wp_store 𝒱₀ (c : Thread nD τ) none Set.univ (m := stM) (r := Rect.unit (s := S768x768) off S192x768.size inb) (w := w) (Mk := Finset.univ)
    (S := rows (192 * b.val) (192 * b.val + 192)) (f := f) hset.subset) $$ H1
  iintro H1
  iapply Hk
  isplitl [HO]; · iexact HO
  isplitl [Ht]; · iexact Ht
  isplitl [Hc]; · iexact Hc
  isplitl [Hown]; · iexact Hown
  isplitl [Hst H1]
  · iapply hmer
    isplitl [Hst]; · iexact Hst
    iapply (Entails.of_eq (pointsTo_congr fun i hi => ?_)) $$ H1
    rw [hP]
    exact write_st_block x g u d b off inb hoff f w hw hi
  · iexists f; iexact H2

/-- A chunk of the partial product is loaded. -/
theorem st_load (c t : Dev nD) (f : Vec F S768x768 .bf16) {off : Fin 2 → ℕ} {inb : ∀ a, off a + S48x768.size a ≤ S768x768.size a} (hoff : off = ![48 * t.val, 0])
    {hl} {α : Type} {Q : α → sProp 𝕄} {k : Vec F S48x768 .bf16 → Prog (TpuEff nD τ sig (Elt F) Λ₀ .tc) α} :
    stPts c (48 * t.val) (48 * (t.val + 1)) f ⊢ iprop((stPts c (48 * t.val) (48 * (t.val + 1)) f -∗ wpc c (k (chunkOf t f)) Q)
      -∗ wpc c (.op (.load stM (Rect.unit (s := S768x768) off S48x768.size inb).toLoadRect hl) k) Q) := by
  rw [← read_st_chunk off inb t hoff f]
  unfold stPts
  exact wp_load_rect 𝒱₀ (c : Thread nD τ) none Set.univ (m := stM) (r := Rect.unit (s := S768x768) off S48x768.size inb)
    ((View.set_slice_whole cc0_scratch0 _).trans (rect_chunk off inb t hoff)).subset

/-- The reduced chunk is stored (after a load of the old rows, which nothing reads). -/
theorem ag_store (c : Dev nD) {off : Fin 2 → ℕ} {inb : ∀ a, off a + S48x768.size a ≤ S768x768.size a} (hoff : off = ![48 * c.val, 0])
    {w : Vec F S48x768 .bf16} (hw : w = redOf P c) {hl hx hm} {α : Type} {Q : α → sProp 𝕄} {k : PUnit → Prog (TpuEff nD τ sig (Elt F) Λ₀ .tc) α} :
    (iprop(∃ f, agPts c fullShare c f) : sProp 𝕄) ⊢ iprop((agPts c fullShare c (agOf P) -∗ wpc c (k ⟨⟩) Q)
      -∗ wpc c (.op (.load agM (Rect.unit (s := S768x768) off S48x768.size inb).toLoadRect hl) fun _ =>
          .op (.store agM (Rect.unit (s := S768x768) off S48x768.size inb) w Finset.univ hx hm) k) Q) := by
  have hset : ((agM : Memref sig .tc .vmem S768x768 .bf16).access (Rect.unit (s := S768x768) off S48x768.size inb)).set = chunk c :=
    (View.set_slice_whole cc0_scratch2 _).trans (rect_chunk off inb c hoff)
  unfold agPts
  iintro ⟨%f, H1⟩ Hk
  iapply (wp_load_rect 𝒱₀ (c : Thread nD τ) none Set.univ (m := agM) (r := Rect.unit (s := S768x768) off S48x768.size inb) (S := chunk c) (q := fullShare) (f := f)
    hset.subset) $$ H1
  iintro H1
  iapply (wp_store 𝒱₀ (c : Thread nD τ) none Set.univ (m := agM) (r := Rect.unit (s := S768x768) off S48x768.size inb) (w := w) (Mk := Finset.univ)
    (S := chunk c) (f := f) hset.subset) $$ H1
  iintro H1
  iapply Hk
  iapply (Entails.of_eq (pointsTo_congr fun i hi => ?_)) $$ H1
  exact write_ag_chunk off inb c hoff f (agOf P) w (hw.trans (chunkOf_agOf P c).symm) hi

end Cert.Mlp

end
-- ==== Proof.Body.lean ====
module

public import proofs.«01_k».proof.Proof.Phases
public import proofs.«01_k».proof.Proof.Gen.KernelIdeal.Skeleton

/-! # A device's run

The kernel body, effect by effect. -/

@[expose] public section

noncomputable section

namespace Cert.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop pointsTo_toks)
open Idealize.ShloMosaic.Pipeline (Dat Cfg Window BodyObligation cellOf)

variable {F : FTy → Type} [FloatOps F]

local notation "𝕄" => MT nD τ sig Unit (Elt F) ℕ UU ℕ

variable (P : Dev nD → Vec F S768x768 .bf16) (K : Dev nD × CI → ℕ)

/-- A semaphore sliced out of the kernel's `a`-th array. -/
theorem arr_sem (a : Fin 4) (k : Fin 15) {base : ℕ} {h : base + S15.numel ≤ 65} (hb : base = 5 + 15 * a.val)
    {off : Fin 1 → ℕ} {inb : ∀ i, off i + S1.size i ≤ S15.size i} {hsq : S1.Squeezes S_} (hk : off 0 = k.val) :
    ((((SemArray.consecutive base S15 h : DmaSems sig S15).slice (Rect.unit (s := S15) off S1.size inb) : DmaSems sig S1).squeeze S_ hsq : DmaSems sig S_)).sem
      = qsem a k := (sem_slice _ off inb hsq k hk).trans (ix_arr a k base h hb)

/-- A wait for a transfer: while receipts of the gathering are owed, only for a receipt of the reduction. -/
theorem wait_any (c : Dev nD) (a : Fin 4) (S : Finset (Fin 15)) (hS : S = ∅ ∨ a = 1) (n : ℕ) (h : n < 15)
    {sm : DmaSem sig} (hsm : sm = qsem a ⟨n, h⟩) {s s' : Shape} {e e' : EltTy} {sp sp' : Space} {src : Memref sig .tc sp s e} {dst : Memref sig .tc sp' s' e'}
    {h1 : src.view.WordExact} {h2 : dst.view.WordExact} (hN : dst.view.dmaCredit = N) {α : Type} {Q : α → sProp 𝕄} {k : PUnit → Prog (TpuEff nD τ sig (Elt F) Λ₀ .tc) α} :
    env P K ⊢ iprop(owesE c (owQ 3 c S + owQ 1 c ∅ + owBar c ∅) -∗ wSt P c a n
      -∗ ((owesE c (owQ 3 c S + owQ 1 c ∅ + owBar c ∅) ∗ wSt P c a (n + 1)) -∗ wpc c (k ⟨⟩) Q)
      -∗ wpc c (.op (.waitDma2 sm src dst h1 h2) k) Q) :=
  wait_step P K c a n h _ (mayWait_of c _ _ (lv_q c a _) ∅ S ∅ (.inl rfl) (hS.imp_right fun h => by subst h; decide) (.inl rfl)) hsm hN

/-- What a device holds when its run begins. -/
def bodyIn (c : Dev nD) : sProp 𝕄 :=
  iprop(owesE c (O₀ c)
    ∗ (bigSep Finset.univ fun k => dutyTok ER (barCell (fwd c k)) 0 k)
    ∗ (bigSep Finset.univ fun k => dutyTok ER (qCell c 0 k) 0 0) ∗ (bigSep Finset.univ fun k => dutyTok ER (qCell (fwd c k) 1 k) 0 0)
    ∗ (bigSep Finset.univ fun k => dutyTok ER (qCell c 2 k) 0 0) ∗ (bigSep Finset.univ fun k => dutyTok ER (qCell (fwd c k) 3 k) 0 0)
    ∗ cred (tallyAt (barCell c) () 15)
    ∗ (bigSep Finset.univ fun k => cred (tallyAt (qCell c 1 k) () N)) ∗ (bigSep Finset.univ fun k => cred (tallyAt (qCell c 3 k) () N))
    ∗ atPos ER (barCell c) 0 ∅ 0
    ∗ (bigSep Finset.univ fun k => atPos ER (qCell c 0 k) 0 ∅ 0) ∗ (bigSep Finset.univ fun k => atPos ER (qCell c 1 k) 0 ∅ 0)
    ∗ (bigSep Finset.univ fun k => atPos ER (qCell c 2 k) 0 ∅ 0) ∗ (bigSep Finset.univ fun k => atPos ER (qCell c 3 k) 0 ∅ 0)
    ∗ (∃ f, ((c : Thread nD τ).loc cc0_scratch0) ↦{fullShare} f) ∗ (∃ f, ((c : Thread nD τ).loc cc0_scratch1) ↦{fullShare} f)
    ∗ (∃ f, ((c : Thread nD τ).loc cc0_scratch2) ↦{fullShare} f))

/-- What it holds when the run is over. -/
def bodyOut (c : Dev nD) : sProp 𝕄 :=
  iprop(owesE c 0 ∗ semVal (barCell c) 0
    ∗ (bigSep Finset.univ fun k => semVal (qCell c 0 k) 0) ∗ (bigSep Finset.univ fun k => semVal (qCell c 1 k) 0)
    ∗ (bigSep Finset.univ fun k => semVal (qCell c 2 k) 0) ∗ (bigSep Finset.univ fun k => semVal (qCell c 3 k) 0)
    ∗ (∃ f, ((c : Thread nD τ).loc cc0_scratch0) ↦{fullShare} f) ∗ (∃ f, ((c : Thread nD τ).loc cc0_scratch1) ↦{fullShare} f)
    ∗ (∃ f, ((c : Thread nD τ).loc cc0_scratch2) ↦{fullShare} f))

/-- The staged operands and the staged result. -/
def stages (c : Dev nD) (x : Vec F S768x768 .bf16) (g u : Vec F S768x1536 .bf16) (d : Vec F S1536x768 .bf16) (o : Vec F S768x768 .f32) : sProp 𝕄 :=
  iprop((((c : Thread nD τ).loc cc0_stg0_0) ↦{fullShare} x) ∗ (((c : Thread nD τ).loc cc0_stg1_0) ↦{fullShare} g)
    ∗ (((c : Thread nD τ).loc cc0_stg2_0) ↦{fullShare} u) ∗ (((c : Thread nD τ).loc cc0_stg3_0) ↦{fullShare} d)
    ∗ (((c : Thread nD τ).loc cc0_stg4_0) ↦{fullShare} o))

/-- A wait for a chunk to have left the stage. -/
theorem wait_st (c : Dev nD) (n : ℕ) (h : n < 15) {sm : DmaSem sig} (hsm : sm = qsem 0 ⟨n, h⟩) {s : Shape} {e : EltTy} {sp : Space} {src : Memref sig .tc sp s e}
    {off : Fin 2 → ℕ} {inb : ∀ a, off a + S48x768.size a ≤ S768x768.size a} {hr h1 h2} {α : Type} {Q : α → sProp 𝕄} {k : PUnit → Prog (TpuEff nD τ sig (Elt F) Λ₀ .tc) α} :
    env P K ⊢ iprop(owesE c (owQ 3 c ∅ + owQ 1 c ∅ + owBar c ∅) -∗ wSt P c 0 n
      -∗ ((owesE c (owQ 3 c ∅ + owQ 1 c ∅ + owBar c ∅) ∗ wSt P c 0 (n + 1)) -∗ wpc c (k ⟨⟩) Q)
      -∗ wpc c (.op (.waitDma2 sm src (stM.slice (Rect.unit (s := S768x768) off S48x768.size inb) hr : Memref sig .tc .vmem S48x768 .bf16) h1 h2) k) Q) :=
  wait_any P K c 0 ∅ (.inl rfl) n h hsm (dst := (stM.slice (Rect.unit (s := S768x768) off S48x768.size inb) hr : Memref sig .tc .vmem S48x768 .bf16)) rfl

/-- A wait for a chunk to have come into its slot. -/
theorem wait_slot (c : Dev nD) (n : ℕ) (h : n < 15) {sm : DmaSem sig} (hsm : sm = qsem 1 ⟨n, h⟩) {s : Shape} {e : EltTy} {sp : Space} {src : Memref sig .tc sp s e}
    {off : Fin 3 → ℕ} {inb : ∀ a, off a + S1x48x768.size a ≤ S15x48x768.size a} {hr hsq h1 h2} {α : Type} {Q : α → sProp 𝕄} {k : PUnit → Prog (TpuEff nD τ sig (Elt F) Λ₀ .tc) α} :
    env P K ⊢ iprop(owesE c (owQ 3 c Finset.univ + owQ 1 c ∅ + owBar c ∅) -∗ wSt P c 1 n
      -∗ ((owesE c (owQ 3 c Finset.univ + owQ 1 c ∅ + owBar c ∅) ∗ wSt P c 1 (n + 1)) -∗ wpc c (k ⟨⟩) Q)
      -∗ wpc c (.op (.waitDma2 sm src ((rsM.slice (Rect.unit (s := S15x48x768) off S1x48x768.size inb) hr).squeeze S48x768 hsq : Memref sig .tc .vmem S48x768 .bf16) h1 h2) k) Q) :=
  wait_any P K c 1 Finset.univ (.inr rfl) n h hsm (dst := ((rsM.slice (Rect.unit (s := S15x48x768) off S1x48x768.size inb) hr).squeeze S48x768 hsq : Memref sig .tc .vmem S48x768 .bf16)) rfl

/-- A wait for a chunk of the result to have left, or to have come. -/
theorem wait_ag (c : Dev nD) (a : Fin 4) (n : ℕ) (h : n < 15) {sm : DmaSem sig} (hsm : sm = qsem a ⟨n, h⟩) {s : Shape} {e : EltTy} {sp : Space} {src : Memref sig .tc sp s e}
    {off : Fin 2 → ℕ} {inb : ∀ a, off a + S48x768.size a ≤ S768x768.size a} {hr h1 h2} {α : Type} {Q : α → sProp 𝕄} {k : PUnit → Prog (TpuEff nD τ sig (Elt F) Λ₀ .tc) α} :
    env P K ⊢ iprop(owesE c (owQ 3 c ∅ + owQ 1 c ∅ + owBar c ∅) -∗ wSt P c a n
      -∗ ((owesE c (owQ 3 c ∅ + owQ 1 c ∅ + owBar c ∅) ∗ wSt P c a (n + 1)) -∗ wpc c (k ⟨⟩) Q)
      -∗ wpc c (.op (.waitDma2 sm src (agM.slice (Rect.unit (s := S768x768) off S48x768.size inb) hr : Memref sig .tc .vmem S48x768 .bf16) h1 h2) k) Q) :=
  wait_any P K c a ∅ (.inl rfl) n h hsm (dst := (agM.slice (Rect.unit (s := S768x768) off S48x768.size inb) hr : Memref sig .tc .vmem S48x768 .bf16)) rfl

/-- A part that ends. -/
theorem ret_step (c : Dev nD) {α : Type} {Q : α → sProp 𝕄} {a : α} : Q a ⊢ wpc c (.ret a) Q := by
  rw [wpc, wp_ret]
  iintro H
  imodintro
  iexact H

/-- A load of elements held whole, at what the rectangle reads. -/
theorem load_as (c : Dev nD) {cs : CoreSpace} {s : Shape} {e : EltTy} {m : Memref sig .tc cs s e} {r : LoadRect s} {hl : m.view.LoadsAt r} {q : PosShare TreeShare}
    {f : Buf (Elt F) (m.view.loc (c : Thread nD τ))} {w : r.shape.Idx → Elt F e} (hw : m.view.readAt (Elt F) r f = w) {α : Type} {Q : α → sProp 𝕄}
    {k : (r.shape.Idx → Elt F e) → Prog (TpuEff nD τ sig (Elt F) Λ₀ .tc) α} :
    (m.view.loc (c : Thread nD τ) ↦{q} f) ⊢ iprop(((m.view.loc (c : Thread nD τ) ↦{q} f) -∗ wpc c (k w) Q) -∗ wpc c (.op (.load m r hl) k) Q) := by
  subst hw
  exact wp_load 𝒱₀ (c : Thread nD τ) none Set.univ (m := m) (Finset.subset_univ _)

/-- The result is stored over the whole of its stage (after a load nothing reads). -/
theorem out_store (c : Dev nD) (o w : Vec F S768x768 .f32) {inb : ∀ a, (![0, 0] : Fin 2 → ℕ) a + S768x768.size a ≤ S768x768.size a} {hl hx hm} {α : Type} {Q : α → sProp 𝕄}
    {k : PUnit → Prog (TpuEff nD τ sig (Elt F) Λ₀ .tc) α} :
    (((c : Thread nD τ).loc cc0_stg4_0) ↦{fullShare} o) ⊢ iprop(((((c : Thread nD τ).loc cc0_stg4_0) ↦{fullShare} w) -∗ wpc c (k ⟨⟩) Q)
      -∗ wpc c (.op (.load oM (Rect.unit (s := S768x768) ![0, 0] S768x768.size inb).toLoadRect hl) fun _ =>
          .op (.store oM (Rect.unit (s := S768x768) ![0, 0] S768x768.size inb) w Finset.univ hx hm) k) Q) := by
  iintro H1 Hk
  iapply (wp_load 𝒱₀ (c : Thread nD τ) none Set.univ (m := oM) (Finset.subset_univ _)) $$ H1; iintro H1
  iapply (wp_store 𝒱₀ (c : Thread nD τ) none Set.univ (m := oM) (r := Rect.unit (s := S768x768) ![0, 0] S768x768.size inb) (w := w) (Mk := Finset.univ) (Finset.subset_univ _)) $$ H1; iintro H1
  iapply Hk
  iapply (Entails.of_eq (congrArg (fun f : Vec F S768x768 .f32 => (((c : Thread nD τ).loc cc0_stg4_0) ↦{fullShare} f : sProp 𝕄)) (Memref.write_access_unit_zero_univ (Elt F) cc0_stg4_0 hz2 inb o w))) $$ H1

/-- The kernel's conditional send of one chunk: to device `t`, unless that is this one. -/
theorem rs_if (c t : Dev nD) (m : ℕ) (hm : 48 * (t.val + 1) ≤ m) {cnd : Dev nD → BitVec 1} (hc : ∀ c, cnd c = 1#1 ↔ t ≠ c) [Decidable (cnd c = 1#1)]
    {dv : ℕ} {hdv : cnd c = 1#1 → dv < nD} (hd : dv = t.val)
    {o1 : Dev nD → Fin 1 → ℕ} {inb1 : cnd c = 1#1 → ∀ a, o1 c a + S1.size a ≤ S15.size a} {hsq1 : S1.Squeezes S_} (h1 : ∀ c, t ≠ c → o1 c 0 = (dist c t).val)
    {off : Fin 2 → ℕ} {inb : ∀ a, off a + S48x768.size a ≤ S768x768.size a} (hoff : off = ![48 * t.val, 0])
    {o2 : Dev nD → Fin 3 → ℕ} {inb2 : cnd c = 1#1 → ∀ a, o2 c a + S1x48x768.size a ≤ S15x48x768.size a} {hsq : S1x48x768.Squeezes S48x768} (h2 : ∀ c, t ≠ c → o2 c = ![(dist c t).val, 0, 0])
    {hsrc} {hdst : ∀ h : cnd c = 1#1, ((rsM.slice (Rect.unit (s := S15x48x768) (o2 c) S1x48x768.size (inb2 h)) (fun _ => rfl)).squeeze S48x768 hsq : Memref sig .tc .vmem S48x768 .bf16).view.WordExact} {α : Type} {Q : α → sProp 𝕄} {k : Prog (TpuEff nD τ sig (Elt F) Λ₀ .tc) α} :
    env P K ⊢ iprop(rsSt P c t.val m -∗ (rsSt P c (t.val + 1) m -∗ wpc c k Q)
      -∗ wpc c (if h : cnd c = 1#1 then
          .op (.enqueueDma (stM.slice (Rect.unit (s := S768x768) off S48x768.size inb) (fun _ => rfl) : Memref sig .tc .vmem S48x768 .bf16)
            (.remote (Dev.tc (⟨dv, hdv h⟩ : Dev nD) : Thread nD τ) ((rsM.slice (Rect.unit (s := S15x48x768) (o2 c) S1x48x768.size (inb2 h)) (fun _ => rfl)).squeeze S48x768 hsq : Memref sig .tc .vmem S48x768 .bf16)
              (.dma (((cc0_scratch3.slice (Rect.unit (s := S15) (o1 c) S1.size (inb1 h)) : DmaSems sig S1).squeeze S_ hsq1 : DmaSems sig S_)).sem))
            (.dma (((cc0_scratch4.slice (Rect.unit (s := S15) (o1 c) S1.size (inb1 h)) : DmaSems sig S1).squeeze S_ hsq1 : DmaSems sig S_)).sem) hsrc (hdst h) ⟨⟨rfl, Or.inl rfl⟩, trivial⟩) fun _ => k
          else k) Q) := by
  by_cases h : cnd c = 1#1
  · rw [dif_pos h]
    have ht : t ≠ c := (hc c).mp h
    iintro #He H Hk
    iapply (rs_send P K c t ht m hm (Fin.ext hd) (arr_sem 0 (dist c t) rfl (h1 c ht)) (arr_sem 1 (dist c t) rfl (h1 c ht)) hoff (h2 c ht)) $$ He H
    iintro H
    iapply Hk; iexact H
  · rw [dif_neg h]
    have ht : t = c := not_not.mp fun h' => h ((hc c).mpr h')
    subst ht
    iintro - H Hk
    iapply Hk
    iapply (rs_skip P t m hm); iexact H

theorem off33 (c : Dev nD) : k0_off33 c = ![48 * c.val, 0] := by revert c; decide +kernel
theorem off34 (c : Dev nD) : k0_off34 c = ![48 * c.val, 0] := by revert c; decide +kernel
theorem owe_none (c : Dev nD) : owQ 3 c ∅ + owQ 1 c ∅ + owBar c ∅ = 0 := by
  unfold owQ owBar; simp

set_option maxHeartbeats 4000000 in
/-- One device's run of the kernel, from what it holds at the start: the result stage ends at the sum. -/
theorem sound_body (c : Dev nD) (x : Vec F S768x768 .bf16) (g u : Vec F S768x1536 .bf16) (d : Vec F S1536x768 .bf16) (o : Vec F S768x768 .f32)
    (hP : P c = partialOf x g u d) (Q : PUnit → sProp 𝕄) :
    env P K ⊢ iprop(bodyIn c -∗ stages c x g u d o -∗ ((bodyOut c ∗ stages c x g u d (outOf P)) -∗ Q ⟨⟩)
      -∗ wpc c (cc0_body xM (Memref.isWhole_whole _) gM (Memref.isWhole_whole _) uM (Memref.isWhole_whole _) dM (Memref.isWhole_whole _) oM (Memref.isWhole_whole _)
          stM (Memref.isWhole_whole _) rsM (Memref.isWhole_whole _) agM (Memref.isWhole_whole _) cc0_scratch3 cc0_scratch4 cc0_scratch5 cc0_scratch6) Q) := by
  unfold bodyIn stages
  iintro #He ⟨HO, HtB, Ht0, Ht1, Ht2, Ht3, HcB, Hc1, Hc3, HaB, Ha0, Ha1, Ha2, Ha3, ⟨%f0, Hst⟩, ⟨%f1, Hrs⟩, ⟨%f2, Hag⟩⟩ ⟨Hx, Hg, Hu, Hd, Ho⟩ Hk
  icases (pays_out c f1 f2) $$ [Hrs Hag] with ⟨Hag, Hpay⟩
  · isplitl [Hrs] <;> iassumption
  ihave Hs := (sig_start c) $$ [HO HtB Hpay]
  · isplitl [HO]; · iexact HO
    isplitl [HtB] <;> iassumption
  rw [cc0_body_eq_skeleton]
  unfold cc0_body_skel
  rw [k0_part45_eq_skeleton]
  unfold k0_part45_skel
  simp only [wp_bind]
  simp only [k0_part1_eq_skeleton, k0_part1_skel, semSignalWord, semWaitWord, Prog.lift, Prog.bind_op, Prog.bind_ret, Prog.pure_eq_ret, wp_deviceId]
  iapply (sig_step P K c 0 (by decide) (Fin.ext ((by decide +kernel : ∀ c : Dev nD, k0_dev1 c = (fwd c ⟨0, by decide⟩).val) c))) $$ He Hs; iintro Hs
  iapply (sig_step P K c 1 (by decide) (Fin.ext ((by decide +kernel : ∀ c : Dev nD, k0_dev2 c = (fwd c ⟨1, by decide⟩).val) c))) $$ He Hs; iintro Hs
  iapply (ret_step c)
  simp only [k0_part2_eq_skeleton, k0_part2_skel, semSignalWord, semWaitWord, Prog.lift, Prog.bind_op, Prog.bind_ret, Prog.pure_eq_ret, wp_deviceId]
  iapply (sig_step P K c 2 (by decide) (Fin.ext ((by decide +kernel : ∀ c : Dev nD, k0_dev3 c = (fwd c ⟨2, by decide⟩).val) c))) $$ He Hs; iintro Hs
  iapply (sig_step P K c 3 (by decide) (Fin.ext ((by decide +kernel : ∀ c : Dev nD, k0_dev4 c = (fwd c ⟨3, by decide⟩).val) c))) $$ He Hs; iintro Hs
  iapply (ret_step c)
  simp only [k0_part3_eq_skeleton, k0_part3_skel, semSignalWord, semWaitWord, Prog.lift, Prog.bind_op, Prog.bind_ret, Prog.pure_eq_ret, wp_deviceId]
  iapply (sig_step P K c 4 (by decide) (Fin.ext ((by decide +kernel : ∀ c : Dev nD, k0_dev5 c = (fwd c ⟨4, by decide⟩).val) c))) $$ He Hs; iintro Hs
  iapply (sig_step P K c 5 (by decide) (Fin.ext ((by decide +kernel : ∀ c : Dev nD, k0_dev6 c = (fwd c ⟨5, by decide⟩).val) c))) $$ He Hs; iintro Hs
  iapply (sig_step P K c 6 (by decide) (Fin.ext ((by decide +kernel : ∀ c : Dev nD, k0_dev7 c = (fwd c ⟨6, by decide⟩).val) c))) $$ He Hs; iintro Hs
  iapply (ret_step c)
  simp only [k0_part4_eq_skeleton, k0_part4_skel, semSignalWord, semWaitWord, Prog.lift, Prog.bind_op, Prog.bind_ret, Prog.pure_eq_ret, wp_deviceId]
  iapply (sig_step P K c 7 (by decide) (Fin.ext ((by decide +kernel : ∀ c : Dev nD, k0_dev8 c = (fwd c ⟨7, by decide⟩).val) c))) $$ He Hs; iintro Hs
  iapply (sig_step P K c 8 (by decide) (Fin.ext ((by decide +kernel : ∀ c : Dev nD, k0_dev9 c = (fwd c ⟨8, by decide⟩).val) c))) $$ He Hs; iintro Hs
  iapply (ret_step c)
  simp only [k0_part5_eq_skeleton, k0_part5_skel, semSignalWord, semWaitWord, Prog.lift, Prog.bind_op, Prog.bind_ret, Prog.pure_eq_ret, wp_deviceId]
  iapply (sig_step P K c 9 (by decide) (Fin.ext ((by decide +kernel : ∀ c : Dev nD, k0_dev10 c = (fwd c ⟨9, by decide⟩).val) c))) $$ He Hs; iintro Hs
  iapply (sig_step P K c 10 (by decide) (Fin.ext ((by decide +kernel : ∀ c : Dev nD, k0_dev11 c = (fwd c ⟨10, by decide⟩).val) c))) $$ He Hs; iintro Hs
  iapply (sig_step P K c 11 (by decide) (Fin.ext ((by decide +kernel : ∀ c : Dev nD, k0_dev12 c = (fwd c ⟨11, by decide⟩).val) c))) $$ He Hs; iintro Hs
  iapply (ret_step c)
  simp only [k0_part6_eq_skeleton, k0_part6_skel, semSignalWord, semWaitWord, Prog.lift, Prog.bind_op, Prog.bind_ret, Prog.pure_eq_ret, wp_deviceId]
  iapply (sig_step P K c 12 (by decide) (Fin.ext ((by decide +kernel : ∀ c : Dev nD, k0_dev13 c = (fwd c ⟨12, by decide⟩).val) c))) $$ He Hs; iintro Hs
  iapply (sig_step P K c 13 (by decide) (Fin.ext ((by decide +kernel : ∀ c : Dev nD, k0_dev14 c = (fwd c ⟨13, by decide⟩).val) c))) $$ He Hs; iintro Hs
  iapply (ret_step c)
  simp only [k0_part7_eq_skeleton, k0_part7_skel, semSignalWord, semWaitWord, Prog.lift, Prog.bind_op, Prog.bind_ret, Prog.pure_eq_ret, wp_deviceId]
  iapply (sig_step P K c 14 (by decide) (Fin.ext ((by decide +kernel : ∀ c : Dev nD, k0_dev15 c = (fwd c ⟨14, by decide⟩).val) c))) $$ He Hs; iintro Hs
  ihave HO := (sig_end c) $$ Hs
  iapply (bar_wait P K c _ (mayWait_of c _ 1 (lv_bar c) Finset.univ Finset.univ ∅ (.inr (by decide)) (.inr (by decide)) (.inl rfl))) $$ He HO HcB HaB
  iintro ⟨HO, HvB, Hpay⟩
  icases (pays_in c) $$ Hpay with ⟨Hslots, Hrooms⟩
  iapply (load_as c (m := xM) (Memref.readAt_unit_zero (Elt F) cc0_stg0_0 hz2 _ x)) $$ Hx; iintro Hx
  iapply (load_as c (m := gM) (Memref.readAt_unit_zero (Elt F) cc0_stg1_0 hz2 _ g)) $$ Hg; iintro Hg
  iapply (load_as c (m := uM) (Memref.readAt_unit_zero (Elt F) cc0_stg2_0 hz2 _ u)) $$ Hu; iintro Hu
  iapply (load_as c (m := dM) (Memref.readAt_unit_zero (Elt F) cc0_stg3_0 hz2 _ d)) $$ Hd; iintro Hd
  ihave Hst := (Entails.of_eq (st_whole c f0)) $$ Hst
  ihave Hs := (rs_start P c f0) $$ [HO Ht1 Ht0 Hslots Hst]
  · isplitl [HO]; · iexact HO
    isplitl [Ht1]; · iexact Ht1
    isplitl [Ht0]; · iexact Ht0
    isplitl [Hslots] <;> iassumption
  iapply (st_block P c x g u d hP 0 0 (by decide) rfl rfl) $$ Hs; iintro Hs
  iapply (ret_step c)
  simp only [k0_part8_eq_skeleton, k0_part8_skel, semSignalWord, semWaitWord, Prog.lift, Prog.bind_op, Prog.bind_ret, Prog.pure_eq_ret, wp_deviceId]
  iapply (rs_if P K c ⟨0, by decide⟩ 192 (by decide) (cnd := k0_cond1) (by decide +kernel) rfl (o1 := k0_off1) (by decide +kernel) rfl (o2 := k0_off2) (by decide +kernel)) $$ He Hs; iintro Hs
  iapply (rs_if P K c ⟨1, by decide⟩ 192 (by decide) (cnd := k0_cond2) (by decide +kernel) rfl (o1 := k0_off3) (by decide +kernel) rfl (o2 := k0_off4) (by decide +kernel)) $$ He Hs; iintro Hs
  iapply (ret_step c)
  simp only [k0_part9_eq_skeleton, k0_part9_skel, semSignalWord, semWaitWord, Prog.lift, Prog.bind_op, Prog.bind_ret, Prog.pure_eq_ret, wp_deviceId]
  iapply (rs_if P K c ⟨2, by decide⟩ 192 (by decide) (cnd := k0_cond3) (by decide +kernel) rfl (o1 := k0_off5) (by decide +kernel) rfl (o2 := k0_off6) (by decide +kernel)) $$ He Hs; iintro Hs
  iapply (rs_if P K c ⟨3, by decide⟩ 192 (by decide) (cnd := k0_cond4) (by decide +kernel) rfl (o1 := k0_off7) (by decide +kernel) rfl (o2 := k0_off8) (by decide +kernel)) $$ He Hs; iintro Hs
  iapply (st_block P c x g u d hP 1 4 (by decide) rfl rfl) $$ Hs; iintro Hs
  iapply (ret_step c)
  simp only [k0_part10_eq_skeleton, k0_part10_skel, semSignalWord, semWaitWord, Prog.lift, Prog.bind_op, Prog.bind_ret, Prog.pure_eq_ret, wp_deviceId]
  iapply (rs_if P K c ⟨4, by decide⟩ 384 (by decide) (cnd := k0_cond5) (by decide +kernel) rfl (o1 := k0_off9) (by decide +kernel) rfl (o2 := k0_off10) (by decide +kernel)) $$ He Hs; iintro Hs
  iapply (rs_if P K c ⟨5, by decide⟩ 384 (by decide) (cnd := k0_cond6) (by decide +kernel) rfl (o1 := k0_off11) (by decide +kernel) rfl (o2 := k0_off12) (by decide +kernel)) $$ He Hs; iintro Hs
  iapply (ret_step c)
  simp only [k0_part11_eq_skeleton, k0_part11_skel, semSignalWord, semWaitWord, Prog.lift, Prog.bind_op, Prog.bind_ret, Prog.pure_eq_ret, wp_deviceId]
  iapply (rs_if P K c ⟨6, by decide⟩ 384 (by decide) (cnd := k0_cond7) (by decide +kernel) rfl (o1 := k0_off13) (by decide +kernel) rfl (o2 := k0_off14) (by decide +kernel)) $$ He Hs; iintro Hs
  iapply (rs_if P K c ⟨7, by decide⟩ 384 (by decide) (cnd := k0_cond8) (by decide +kernel) rfl (o1 := k0_off15) (by decide +kernel) rfl (o2 := k0_off16) (by decide +kernel)) $$ He Hs; iintro Hs
  iapply (ret_step c)
  simp only [k0_part12_eq_skeleton, k0_part12_skel, semSignalWord, semWaitWord, Prog.lift, Prog.bind_op, Prog.bind_ret, Prog.pure_eq_ret, wp_deviceId]
  iapply (st_block P c x g u d hP 2 8 (by decide) rfl rfl) $$ Hs; iintro Hs
  iapply (rs_if P K c ⟨8, by decide⟩ 576 (by decide) (cnd := k0_cond9) (by decide +kernel) rfl (o1 := k0_off17) (by decide +kernel) rfl (o2 := k0_off18) (by decide +kernel)) $$ He Hs; iintro Hs
  iapply (rs_if P K c ⟨9, by decide⟩ 576 (by decide) (cnd := k0_cond10) (by decide +kernel) rfl (o1 := k0_off19) (by decide +kernel) rfl (o2 := k0_off20) (by decide +kernel)) $$ He Hs; iintro Hs
  iapply (ret_step c)
  simp only [k0_part13_eq_skeleton, k0_part13_skel, semSignalWord, semWaitWord, Prog.lift, Prog.bind_op, Prog.bind_ret, Prog.pure_eq_ret, wp_deviceId]
  iapply (rs_if P K c ⟨10, by decide⟩ 576 (by decide) (cnd := k0_cond11) (by decide +kernel) rfl (o1 := k0_off21) (by decide +kernel) rfl (o2 := k0_off22) (by decide +kernel)) $$ He Hs; iintro Hs
  iapply (rs_if P K c ⟨11, by decide⟩ 576 (by decide) (cnd := k0_cond12) (by decide +kernel) rfl (o1 := k0_off23) (by decide +kernel) rfl (o2 := k0_off24) (by decide +kernel)) $$ He Hs; iintro Hs
  iapply (ret_step c)
  simp only [k0_part14_eq_skeleton, k0_part14_skel, semSignalWord, semWaitWord, Prog.lift, Prog.bind_op, Prog.bind_ret, Prog.pure_eq_ret, wp_deviceId]
  iapply (st_block P c x g u d hP 3 12 (by decide) rfl rfl) $$ Hs; iintro Hs
  iapply (rs_if P K c ⟨12, by decide⟩ 768 (by decide) (cnd := k0_cond13) (by decide +kernel) rfl (o1 := k0_off25) (by decide +kernel) rfl (o2 := k0_off26) (by decide +kernel)) $$ He Hs; iintro Hs
  iapply (ret_step c)
  simp only [k0_part15_eq_skeleton, k0_part15_skel, semSignalWord, semWaitWord, Prog.lift, Prog.bind_op, Prog.bind_ret, Prog.pure_eq_ret, wp_deviceId]
  iapply (rs_if P K c ⟨13, by decide⟩ 768 (by decide) (cnd := k0_cond14) (by decide +kernel) rfl (o1 := k0_off27) (by decide +kernel) rfl (o2 := k0_off28) (by decide +kernel)) $$ He Hs; iintro Hs
  iapply (rs_if P K c ⟨14, by decide⟩ 768 (by decide) (cnd := k0_cond15) (by decide +kernel) rfl (o1 := k0_off29) (by decide +kernel) rfl (o2 := k0_off30) (by decide +kernel)) $$ He Hs; iintro Hs
  iapply (ret_step c)
  simp only [k0_part16_eq_skeleton, k0_part16_skel, semSignalWord, semWaitWord, Prog.lift, Prog.bind_op, Prog.bind_ret, Prog.pure_eq_ret, wp_deviceId]
  iapply (rs_if P K c ⟨15, by decide⟩ 768 (by decide) (cnd := k0_cond16) (by decide +kernel) rfl (o1 := k0_off31) (by decide +kernel) rfl (o2 := k0_off32) (by decide +kernel)) $$ He Hs; iintro Hs
  icases (rs_end P c) $$ Hs with ⟨HO, Hc0, Hst⟩
  ihave Hw1 := (w_start P c 1) $$ [Hc1 Ha1]
  · isplitl [Hc1] <;> iassumption
  ihave Hw0 := (w_start P c 0) $$ [Hc0 Ha0]
  · isplitl [Hc0] <;> iassumption
  iapply (wait_slot P K c 0 (by decide) (arr_sem 1 ⟨0, by decide⟩ rfl rfl)) $$ He HO Hw1; iintro ⟨HO, Hw1⟩
  iapply (wait_slot P K c 1 (by decide) (arr_sem 1 ⟨1, by decide⟩ rfl rfl)) $$ He HO Hw1; iintro ⟨HO, Hw1⟩
  iapply (ret_step c)
  simp only [k0_part17_eq_skeleton, k0_part17_skel, semSignalWord, semWaitWord, Prog.lift, Prog.bind_op, Prog.bind_ret, Prog.pure_eq_ret, wp_deviceId]
  iapply (wait_slot P K c 2 (by decide) (arr_sem 1 ⟨2, by decide⟩ rfl rfl)) $$ He HO Hw1; iintro ⟨HO, Hw1⟩
  iapply (wait_slot P K c 3 (by decide) (arr_sem 1 ⟨3, by decide⟩ rfl rfl)) $$ He HO Hw1; iintro ⟨HO, Hw1⟩
  iapply (wait_slot P K c 4 (by decide) (arr_sem 1 ⟨4, by decide⟩ rfl rfl)) $$ He HO Hw1; iintro ⟨HO, Hw1⟩
  iapply (wait_slot P K c 5 (by decide) (arr_sem 1 ⟨5, by decide⟩ rfl rfl)) $$ He HO Hw1; iintro ⟨HO, Hw1⟩
  iapply (ret_step c)
  simp only [k0_part18_eq_skeleton, k0_part18_skel, semSignalWord, semWaitWord, Prog.lift, Prog.bind_op, Prog.bind_ret, Prog.pure_eq_ret, wp_deviceId]
  iapply (wait_slot P K c 6 (by decide) (arr_sem 1 ⟨6, by decide⟩ rfl rfl)) $$ He HO Hw1; iintro ⟨HO, Hw1⟩
  iapply (wait_slot P K c 7 (by decide) (arr_sem 1 ⟨7, by decide⟩ rfl rfl)) $$ He HO Hw1; iintro ⟨HO, Hw1⟩
  iapply (wait_slot P K c 8 (by decide) (arr_sem 1 ⟨8, by decide⟩ rfl rfl)) $$ He HO Hw1; iintro ⟨HO, Hw1⟩
  iapply (ret_step c)
  simp only [k0_part19_eq_skeleton, k0_part19_skel, semSignalWord, semWaitWord, Prog.lift, Prog.bind_op, Prog.bind_ret, Prog.pure_eq_ret, wp_deviceId]
  iapply (wait_slot P K c 9 (by decide) (arr_sem 1 ⟨9, by decide⟩ rfl rfl)) $$ He HO Hw1; iintro ⟨HO, Hw1⟩
  iapply (wait_slot P K c 10 (by decide) (arr_sem 1 ⟨10, by decide⟩ rfl rfl)) $$ He HO Hw1; iintro ⟨HO, Hw1⟩
  iapply (wait_slot P K c 11 (by decide) (arr_sem 1 ⟨11, by decide⟩ rfl rfl)) $$ He HO Hw1; iintro ⟨HO, Hw1⟩
  iapply (ret_step c)
  simp only [k0_part20_eq_skeleton, k0_part20_skel, semSignalWord, semWaitWord, Prog.lift, Prog.bind_op, Prog.bind_ret, Prog.pure_eq_ret, wp_deviceId]
  iapply (wait_slot P K c 12 (by decide) (arr_sem 1 ⟨12, by decide⟩ rfl rfl)) $$ He HO Hw1; iintro ⟨HO, Hw1⟩
  iapply (wait_slot P K c 13 (by decide) (arr_sem 1 ⟨13, by decide⟩ rfl rfl)) $$ He HO Hw1; iintro ⟨HO, Hw1⟩
  iapply (wait_slot P K c 14 (by decide) (arr_sem 1 ⟨14, by decide⟩ rfl rfl)) $$ He HO Hw1; iintro ⟨HO, Hw1⟩
  icases (rs_landed P c) $$ Hw1 with ⟨Hrs, Hv1⟩
  iapply (st_load c c (P c) (off33 c)) $$ Hst; iintro Hst
  iapply (ret_step c)
  simp only [k0_part21_eq_skeleton, k0_part21_skel, semSignalWord, semWaitWord, Prog.lift, Prog.bind_op, Prog.bind_ret, Prog.pure_eq_ret, wp_deviceId]
  iapply (load_as c (m := rsM) (Memref.readAt_unit_zero (Elt F) cc0_scratch1 hz3 _ (rsOf P c))) $$ Hrs; iintro Hrs
  iapply (ag_store P c (off33 c) rfl) $$ Hag; iintro Hag
  icases (ag_start P c) $$ [HO Ht3 Ht2 Hrooms Hag] with ⟨Hs, Hag⟩
  · isplitl [HO]; · iexact HO
    isplitl [Ht3]; · iexact Ht3
    isplitl [Ht2]; · iexact Ht2
    isplitl [Hrooms] <;> iassumption
  iapply (ag_send P K c 0 (by decide) (Fin.ext ((by decide +kernel : ∀ c : Dev nD, k0_dev32 c = (fwd c ⟨0, by decide⟩).val) c)) (arr_sem 2 ⟨0, by decide⟩ rfl rfl) (arr_sem 3 ⟨0, by decide⟩ rfl rfl) (off34 c) (off34 c)) $$ He Hs; iintro Hs
  iapply (ret_step c)
  simp only [k0_part22_eq_skeleton, k0_part22_skel, semSignalWord, semWaitWord, Prog.lift, Prog.bind_op, Prog.bind_ret, Prog.pure_eq_ret, wp_deviceId]
  iapply (ag_send P K c 1 (by decide) (Fin.ext ((by decide +kernel : ∀ c : Dev nD, k0_dev33 c = (fwd c ⟨1, by decide⟩).val) c)) (arr_sem 2 ⟨1, by decide⟩ rfl rfl) (arr_sem 3 ⟨1, by decide⟩ rfl rfl) (off34 c) (off34 c)) $$ He Hs; iintro Hs
  iapply (ag_send P K c 2 (by decide) (Fin.ext ((by decide +kernel : ∀ c : Dev nD, k0_dev34 c = (fwd c ⟨2, by decide⟩).val) c)) (arr_sem 2 ⟨2, by decide⟩ rfl rfl) (arr_sem 3 ⟨2, by decide⟩ rfl rfl) (off34 c) (off34 c)) $$ He Hs; iintro Hs
  iapply (ret_step c)
  simp only [k0_part23_eq_skeleton, k0_part23_skel, semSignalWord, semWaitWord, Prog.lift, Prog.bind_op, Prog.bind_ret, Prog.pure_eq_ret, wp_deviceId]
  iapply (ag_send P K c 3 (by decide) (Fin.ext ((by decide +kernel : ∀ c : Dev nD, k0_dev35 c = (fwd c ⟨3, by decide⟩).val) c)) (arr_sem 2 ⟨3, by decide⟩ rfl rfl) (arr_sem 3 ⟨3, by decide⟩ rfl rfl) (off34 c) (off34 c)) $$ He Hs; iintro Hs
  iapply (ag_send P K c 4 (by decide) (Fin.ext ((by decide +kernel : ∀ c : Dev nD, k0_dev36 c = (fwd c ⟨4, by decide⟩).val) c)) (arr_sem 2 ⟨4, by decide⟩ rfl rfl) (arr_sem 3 ⟨4, by decide⟩ rfl rfl) (off34 c) (off34 c)) $$ He Hs; iintro Hs
  iapply (ret_step c)
  simp only [k0_part24_eq_skeleton, k0_part24_skel, semSignalWord, semWaitWord, Prog.lift, Prog.bind_op, Prog.bind_ret, Prog.pure_eq_ret, wp_deviceId]
  iapply (ag_send P K c 5 (by decide) (Fin.ext ((by decide +kernel : ∀ c : Dev nD, k0_dev37 c = (fwd c ⟨5, by decide⟩).val) c)) (arr_sem 2 ⟨5, by decide⟩ rfl rfl) (arr_sem 3 ⟨5, by decide⟩ rfl rfl) (off34 c) (off34 c)) $$ He Hs; iintro Hs
  iapply (ret_step c)
  simp only [k0_part25_eq_skeleton, k0_part25_skel, semSignalWord, semWaitWord, Prog.lift, Prog.bind_op, Prog.bind_ret, Prog.pure_eq_ret, wp_deviceId]
  iapply (ag_send P K c 6 (by decide) (Fin.ext ((by decide +kernel : ∀ c : Dev nD, k0_dev38 c = (fwd c ⟨6, by decide⟩).val) c)) (arr_sem 2 ⟨6, by decide⟩ rfl rfl) (arr_sem 3 ⟨6, by decide⟩ rfl rfl) (off34 c) (off34 c)) $$ He Hs; iintro Hs
  iapply (ag_send P K c 7 (by decide) (Fin.ext ((by decide +kernel : ∀ c : Dev nD, k0_dev39 c = (fwd c ⟨7, by decide⟩).val) c)) (arr_sem 2 ⟨7, by decide⟩ rfl rfl) (arr_sem 3 ⟨7, by decide⟩ rfl rfl) (off34 c) (off34 c)) $$ He Hs; iintro Hs
  iapply (ret_step c)
  simp only [k0_part26_eq_skeleton, k0_part26_skel, semSignalWord, semWaitWord, Prog.lift, Prog.bind_op, Prog.bind_ret, Prog.pure_eq_ret, wp_deviceId]
  iapply (ag_send P K c 8 (by decide) (Fin.ext ((by decide +kernel : ∀ c : Dev nD, k0_dev40 c = (fwd c ⟨8, by decide⟩).val) c)) (arr_sem 2 ⟨8, by decide⟩ rfl rfl) (arr_sem 3 ⟨8, by decide⟩ rfl rfl) (off34 c) (off34 c)) $$ He Hs; iintro Hs
  iapply (ag_send P K c 9 (by decide) (Fin.ext ((by decide +kernel : ∀ c : Dev nD, k0_dev41 c = (fwd c ⟨9, by decide⟩).val) c)) (arr_sem 2 ⟨9, by decide⟩ rfl rfl) (arr_sem 3 ⟨9, by decide⟩ rfl rfl) (off34 c) (off34 c)) $$ He Hs; iintro Hs
  iapply (ret_step c)
  simp only [k0_part27_eq_skeleton, k0_part27_skel, semSignalWord, semWaitWord, Prog.lift, Prog.bind_op, Prog.bind_ret, Prog.pure_eq_ret, wp_deviceId]
  iapply (ag_send P K c 10 (by decide) (Fin.ext ((by decide +kernel : ∀ c : Dev nD, k0_dev42 c = (fwd c ⟨10, by decide⟩).val) c)) (arr_sem 2 ⟨10, by decide⟩ rfl rfl) (arr_sem 3 ⟨10, by decide⟩ rfl rfl) (off34 c) (off34 c)) $$ He Hs; iintro Hs
  iapply (ag_send P K c 11 (by decide) (Fin.ext ((by decide +kernel : ∀ c : Dev nD, k0_dev43 c = (fwd c ⟨11, by decide⟩).val) c)) (arr_sem 2 ⟨11, by decide⟩ rfl rfl) (arr_sem 3 ⟨11, by decide⟩ rfl rfl) (off34 c) (off34 c)) $$ He Hs; iintro Hs
  iapply (ret_step c)
  simp only [k0_part28_eq_skeleton, k0_part28_skel, semSignalWord, semWaitWord, Prog.lift, Prog.bind_op, Prog.bind_ret, Prog.pure_eq_ret, wp_deviceId]
  iapply (ag_send P K c 12 (by decide) (Fin.ext ((by decide +kernel : ∀ c : Dev nD, k0_dev44 c = (fwd c ⟨12, by decide⟩).val) c)) (arr_sem 2 ⟨12, by decide⟩ rfl rfl) (arr_sem 3 ⟨12, by decide⟩ rfl rfl) (off34 c) (off34 c)) $$ He Hs; iintro Hs
  iapply (ag_send P K c 13 (by decide) (Fin.ext ((by decide +kernel : ∀ c : Dev nD, k0_dev45 c = (fwd c ⟨13, by decide⟩).val) c)) (arr_sem 2 ⟨13, by decide⟩ rfl rfl) (arr_sem 3 ⟨13, by decide⟩ rfl rfl) (off34 c) (off34 c)) $$ He Hs; iintro Hs
  iapply (ret_step c)
  simp only [k0_part29_eq_skeleton, k0_part29_skel, semSignalWord, semWaitWord, Prog.lift, Prog.bind_op, Prog.bind_ret, Prog.pure_eq_ret, wp_deviceId]
  iapply (ag_send P K c 14 (by decide) (Fin.ext ((by decide +kernel : ∀ c : Dev nD, k0_dev46 c = (fwd c ⟨14, by decide⟩).val) c)) (arr_sem 2 ⟨14, by decide⟩ rfl rfl) (arr_sem 3 ⟨14, by decide⟩ rfl rfl) (off34 c) (off34 c)) $$ He Hs; iintro Hs
  iapply (ret_step c)
  icases (ag_end P c) $$ Hs with ⟨HO, Hc2⟩
  ihave Hw3 := (w_start P c 3) $$ [Hc3 Ha3]
  · isplitl [Hc3] <;> iassumption
  ihave Hw2 := (w_start P c 2) $$ [Hc2 Ha2]
  · isplitl [Hc2] <;> iassumption
  simp only [k0_part30_eq_skeleton, k0_part30_skel, semSignalWord, semWaitWord, Prog.lift, Prog.bind_op, Prog.bind_ret, Prog.pure_eq_ret, wp_deviceId]
  iapply (wait_ag P K c 3 0 (by decide) (arr_sem 3 ⟨0, by decide⟩ rfl rfl)) $$ He HO Hw3; iintro ⟨HO, Hw3⟩
  iapply (wait_ag P K c 3 1 (by decide) (arr_sem 3 ⟨1, by decide⟩ rfl rfl)) $$ He HO Hw3; iintro ⟨HO, Hw3⟩
  iapply (ret_step c)
  simp only [k0_part31_eq_skeleton, k0_part31_skel, semSignalWord, semWaitWord, Prog.lift, Prog.bind_op, Prog.bind_ret, Prog.pure_eq_ret, wp_deviceId]
  iapply (wait_ag P K c 3 2 (by decide) (arr_sem 3 ⟨2, by decide⟩ rfl rfl)) $$ He HO Hw3; iintro ⟨HO, Hw3⟩
  iapply (wait_ag P K c 3 3 (by decide) (arr_sem 3 ⟨3, by decide⟩ rfl rfl)) $$ He HO Hw3; iintro ⟨HO, Hw3⟩
  iapply (ret_step c)
  simp only [k0_part32_eq_skeleton, k0_part32_skel, semSignalWord, semWaitWord, Prog.lift, Prog.bind_op, Prog.bind_ret, Prog.pure_eq_ret, wp_deviceId]
  iapply (wait_ag P K c 3 4 (by decide) (arr_sem 3 ⟨4, by decide⟩ rfl rfl)) $$ He HO Hw3; iintro ⟨HO, Hw3⟩
  iapply (ret_step c)
  simp only [k0_part33_eq_skeleton, k0_part33_skel, semSignalWord, semWaitWord, Prog.lift, Prog.bind_op, Prog.bind_ret, Prog.pure_eq_ret, wp_deviceId]
  iapply (wait_ag P K c 3 5 (by decide) (arr_sem 3 ⟨5, by decide⟩ rfl rfl)) $$ He HO Hw3; iintro ⟨HO, Hw3⟩
  iapply (wait_ag P K c 3 6 (by decide) (arr_sem 3 ⟨6, by decide⟩ rfl rfl)) $$ He HO Hw3; iintro ⟨HO, Hw3⟩
  iapply (ret_step c)
  simp only [k0_part34_eq_skeleton, k0_part34_skel, semSignalWord, semWaitWord, Prog.lift, Prog.bind_op, Prog.bind_ret, Prog.pure_eq_ret, wp_deviceId]
  iapply (wait_ag P K c 3 7 (by decide) (arr_sem 3 ⟨7, by decide⟩ rfl rfl)) $$ He HO Hw3; iintro ⟨HO, Hw3⟩
  iapply (wait_ag P K c 3 8 (by decide) (arr_sem 3 ⟨8, by decide⟩ rfl rfl)) $$ He HO Hw3; iintro ⟨HO, Hw3⟩
  iapply (ret_step c)
  simp only [k0_part35_eq_skeleton, k0_part35_skel, semSignalWord, semWaitWord, Prog.lift, Prog.bind_op, Prog.bind_ret, Prog.pure_eq_ret, wp_deviceId]
  iapply (wait_ag P K c 3 9 (by decide) (arr_sem 3 ⟨9, by decide⟩ rfl rfl)) $$ He HO Hw3; iintro ⟨HO, Hw3⟩
  iapply (ret_step c)
  simp only [k0_part36_eq_skeleton, k0_part36_skel, semSignalWord, semWaitWord, Prog.lift, Prog.bind_op, Prog.bind_ret, Prog.pure_eq_ret, wp_deviceId]
  iapply (wait_ag P K c 3 10 (by decide) (arr_sem 3 ⟨10, by decide⟩ rfl rfl)) $$ He HO Hw3; iintro ⟨HO, Hw3⟩
  iapply (wait_ag P K c 3 11 (by decide) (arr_sem 3 ⟨11, by decide⟩ rfl rfl)) $$ He HO Hw3; iintro ⟨HO, Hw3⟩
  iapply (ret_step c)
  simp only [k0_part37_eq_skeleton, k0_part37_skel, semSignalWord, semWaitWord, Prog.lift, Prog.bind_op, Prog.bind_ret, Prog.pure_eq_ret, wp_deviceId]
  iapply (wait_ag P K c 3 12 (by decide) (arr_sem 3 ⟨12, by decide⟩ rfl rfl)) $$ He HO Hw3; iintro ⟨HO, Hw3⟩
  iapply (ret_step c)
  simp only [k0_part38_eq_skeleton, k0_part38_skel, semSignalWord, semWaitWord, Prog.lift, Prog.bind_op, Prog.bind_ret, Prog.pure_eq_ret, wp_deviceId]
  iapply (wait_ag P K c 3 13 (by decide) (arr_sem 3 ⟨13, by decide⟩ rfl rfl)) $$ He HO Hw3; iintro ⟨HO, Hw3⟩
  iapply (wait_ag P K c 3 14 (by decide) (arr_sem 3 ⟨14, by decide⟩ rfl rfl)) $$ He HO Hw3; iintro ⟨HO, Hw3⟩
  icases (ag_landed P c) $$ [Hag Hw3] with ⟨Hag, Hkept, Hv3⟩
  · isplitl [Hag] <;> iassumption
  iapply (load_as c (m := agM) (Memref.readAt_unit_zero (Elt F) cc0_scratch2 hz2 _ (agOf P))) $$ Hag; iintro Hag
  iapply (out_store c o (outOf P)) $$ Ho; iintro Ho
  iapply (ret_step c)
  simp only [k0_part39_eq_skeleton, k0_part39_skel, semSignalWord, semWaitWord, Prog.lift, Prog.bind_op, Prog.bind_ret, Prog.pure_eq_ret, wp_deviceId]
  iapply (wait_st P K c 0 (by decide) (arr_sem 0 ⟨0, by decide⟩ rfl rfl)) $$ He HO Hw0; iintro ⟨HO, Hw0⟩
  iapply (wait_ag P K c 2 0 (by decide) (arr_sem 2 ⟨0, by decide⟩ rfl rfl)) $$ He HO Hw2; iintro ⟨HO, Hw2⟩
  iapply (wait_st P K c 1 (by decide) (arr_sem 0 ⟨1, by decide⟩ rfl rfl)) $$ He HO Hw0; iintro ⟨HO, Hw0⟩
  iapply (wait_ag P K c 2 1 (by decide) (arr_sem 2 ⟨1, by decide⟩ rfl rfl)) $$ He HO Hw2; iintro ⟨HO, Hw2⟩
  iapply (wait_st P K c 2 (by decide) (arr_sem 0 ⟨2, by decide⟩ rfl rfl)) $$ He HO Hw0; iintro ⟨HO, Hw0⟩
  iapply (ret_step c)
  simp only [k0_part40_eq_skeleton, k0_part40_skel, semSignalWord, semWaitWord, Prog.lift, Prog.bind_op, Prog.bind_ret, Prog.pure_eq_ret, wp_deviceId]
  iapply (wait_ag P K c 2 2 (by decide) (arr_sem 2 ⟨2, by decide⟩ rfl rfl)) $$ He HO Hw2; iintro ⟨HO, Hw2⟩
  iapply (wait_st P K c 3 (by decide) (arr_sem 0 ⟨3, by decide⟩ rfl rfl)) $$ He HO Hw0; iintro ⟨HO, Hw0⟩
  iapply (wait_ag P K c 2 3 (by decide) (arr_sem 2 ⟨3, by decide⟩ rfl rfl)) $$ He HO Hw2; iintro ⟨HO, Hw2⟩
  iapply (wait_st P K c 4 (by decide) (arr_sem 0 ⟨4, by decide⟩ rfl rfl)) $$ He HO Hw0; iintro ⟨HO, Hw0⟩
  iapply (wait_ag P K c 2 4 (by decide) (arr_sem 2 ⟨4, by decide⟩ rfl rfl)) $$ He HO Hw2; iintro ⟨HO, Hw2⟩
  iapply (ret_step c)
  simp only [k0_part41_eq_skeleton, k0_part41_skel, semSignalWord, semWaitWord, Prog.lift, Prog.bind_op, Prog.bind_ret, Prog.pure_eq_ret, wp_deviceId]
  iapply (wait_st P K c 5 (by decide) (arr_sem 0 ⟨5, by decide⟩ rfl rfl)) $$ He HO Hw0; iintro ⟨HO, Hw0⟩
  iapply (wait_ag P K c 2 5 (by decide) (arr_sem 2 ⟨5, by decide⟩ rfl rfl)) $$ He HO Hw2; iintro ⟨HO, Hw2⟩
  iapply (wait_st P K c 6 (by decide) (arr_sem 0 ⟨6, by decide⟩ rfl rfl)) $$ He HO Hw0; iintro ⟨HO, Hw0⟩
  iapply (wait_ag P K c 2 6 (by decide) (arr_sem 2 ⟨6, by decide⟩ rfl rfl)) $$ He HO Hw2; iintro ⟨HO, Hw2⟩
  iapply (ret_step c)
  simp only [k0_part42_eq_skeleton, k0_part42_skel, semSignalWord, semWaitWord, Prog.lift, Prog.bind_op, Prog.bind_ret, Prog.pure_eq_ret, wp_deviceId]
  iapply (wait_st P K c 7 (by decide) (arr_sem 0 ⟨7, by decide⟩ rfl rfl)) $$ He HO Hw0; iintro ⟨HO, Hw0⟩
  iapply (wait_ag P K c 2 7 (by decide) (arr_sem 2 ⟨7, by decide⟩ rfl rfl)) $$ He HO Hw2; iintro ⟨HO, Hw2⟩
  iapply (wait_st P K c 8 (by decide) (arr_sem 0 ⟨8, by decide⟩ rfl rfl)) $$ He HO Hw0; iintro ⟨HO, Hw0⟩
  iapply (wait_ag P K c 2 8 (by decide) (arr_sem 2 ⟨8, by decide⟩ rfl rfl)) $$ He HO Hw2; iintro ⟨HO, Hw2⟩
  iapply (wait_st P K c 9 (by decide) (arr_sem 0 ⟨9, by decide⟩ rfl rfl)) $$ He HO Hw0; iintro ⟨HO, Hw0⟩
  iapply (ret_step c)
  simp only [k0_part43_eq_skeleton, k0_part43_skel, semSignalWord, semWaitWord, Prog.lift, Prog.bind_op, Prog.bind_ret, Prog.pure_eq_ret, wp_deviceId]
  iapply (wait_ag P K c 2 9 (by decide) (arr_sem 2 ⟨9, by decide⟩ rfl rfl)) $$ He HO Hw2; iintro ⟨HO, Hw2⟩
  iapply (wait_st P K c 10 (by decide) (arr_sem 0 ⟨10, by decide⟩ rfl rfl)) $$ He HO Hw0; iintro ⟨HO, Hw0⟩
  iapply (wait_ag P K c 2 10 (by decide) (arr_sem 2 ⟨10, by decide⟩ rfl rfl)) $$ He HO Hw2; iintro ⟨HO, Hw2⟩
  iapply (wait_st P K c 11 (by decide) (arr_sem 0 ⟨11, by decide⟩ rfl rfl)) $$ He HO Hw0; iintro ⟨HO, Hw0⟩
  iapply (ret_step c)
  simp only [k0_part44_eq_skeleton, k0_part44_skel, semSignalWord, semWaitWord, Prog.lift, Prog.bind_op, Prog.bind_ret, Prog.pure_eq_ret, wp_deviceId]
  iapply (wait_ag P K c 2 11 (by decide) (arr_sem 2 ⟨11, by decide⟩ rfl rfl)) $$ He HO Hw2; iintro ⟨HO, Hw2⟩
  iapply (wait_st P K c 12 (by decide) (arr_sem 0 ⟨12, by decide⟩ rfl rfl)) $$ He HO Hw0; iintro ⟨HO, Hw0⟩
  iapply (wait_ag P K c 2 12 (by decide) (arr_sem 2 ⟨12, by decide⟩ rfl rfl)) $$ He HO Hw2; iintro ⟨HO, Hw2⟩
  iapply (wait_st P K c 13 (by decide) (arr_sem 0 ⟨13, by decide⟩ rfl rfl)) $$ He HO Hw0; iintro ⟨HO, Hw0⟩
  iapply (wait_ag P K c 2 13 (by decide) (arr_sem 2 ⟨13, by decide⟩ rfl rfl)) $$ He HO Hw2; iintro ⟨HO, Hw2⟩
  iapply (ret_step c)
  iapply (wait_st P K c 14 (by decide) (arr_sem 0 ⟨14, by decide⟩ rfl rfl)) $$ He HO Hw0; iintro ⟨HO, Hw0⟩
  iapply (ret_step c)
  iapply (ret_step c)
  iapply (wait_ag P K c 2 14 (by decide) (arr_sem 2 ⟨14, by decide⟩ rfl rfl)) $$ He HO Hw2; iintro ⟨HO, Hw2⟩
  iapply (ret_step c)
  iapply (ret_step c)
  icases (st_back P c (P c)) $$ [Hst Hw0] with ⟨Hst, Hv0⟩
  · isplitl [Hst] <;> iassumption
  icases (ag_back P c) $$ [Hag Hkept Hw2] with ⟨Hag, Hv2⟩
  · isplitl [Hag]; · iexact Hag
    isplitl [Hkept] <;> iassumption
  iapply Hk
  unfold bodyOut
  isplitr [Hx Hg Hu Hd Ho]
  · isplitl [HO]; · iapply (Entails.of_eq (congrArg (owesE c) (owe_none c))); iexact HO
    isplitl [HvB]; · iexact HvB
    isplitl [Hv0]; · iexact Hv0
    isplitl [Hv1]; · iexact Hv1
    isplitl [Hv2]; · iexact Hv2
    isplitl [Hv3]; · iexact Hv3
    isplitl [Hst]; · iexact Hst
    isplitl [Hrs]; · iexists _; iexact Hrs
    iexists _; iexact Hag
  isplitl [Hx]; · iexact Hx
  isplitl [Hg]; · iexact Hg
  isplitl [Hu]; · iexact Hu
  isplitl [Hd] <;> iassumption

end Cert.Mlp

end
-- ==== Proof.Deal.lean ====
module

public import proofs.«01_k».proof.Proof.Body
public import proofs.«01_k».proof.Proof.Gen.KernelIdeal.Points
public import proofs.«01_k».proof.Proof.Gen.KernelIdeal.Frame

/-! # Setting the semaphores up

Before the kernel runs, every semaphore is put under its one round and each device is dealt what it
pays with: the duties of other devices' semaphores travel round the mesh to the devices that pay them. -/

@[expose] public section

noncomputable section

namespace Cert.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop pointsTo_toks)
open Idealize.ShloMosaic.Pipeline (Dat Cfg Window BodyObligation cellOf)

variable {F : FTy → Type} [FloatOps F]

local notation "𝕄" => MT nD τ sig Unit (Elt F) ℕ UU ℕ

variable (P : Dev nD → Vec F S768x768 .bf16) (K : Dev nD × CI → ℕ)

/-! ## Separating conjunctions over a device's cells -/

/-- Over a device's cells: the barrier's, then those of the four arrays. -/
theorem bs_cells {M : Type} [URA M] (Φ : CI → sProp M) :
    bigSep Finset.univ Φ = iprop(Φ none ∗ (bigSep Finset.univ fun k : Fin 15 => Φ (some (0, k))) ∗ (bigSep Finset.univ fun k : Fin 15 => Φ (some (1, k)))
      ∗ (bigSep Finset.univ fun k : Fin 15 => Φ (some (2, k))) ∗ (bigSep Finset.univ fun k : Fin 15 => Φ (some (3, k)))) := by
  have he : (Finset.univ : Finset CI).erase none = Finset.univ.map ⟨some, Option.some_injective _⟩ := by
    ext i; cases i <;> simp
  rw [bigSep_univ_at Φ none, he, bigSep_map, bigSep_univ_prod,
    bigSep_univ_eq_bigSepL [(0 : Fin 4), (1 : Fin 4), (2 : Fin 4), (3 : Fin 4)] (by decide) (by decide)]
  rfl

/-- Dealing round the mesh: what is every device's for each distance, taken at the device that far on. -/
theorem bs_around (Φ : Dev nD → Fin 15 → sProp 𝕄) :
    (bigSep Finset.univ fun c : Dev nD => bigSep Finset.univ fun k : Fin 15 => Φ c k)
      = bigSep Finset.univ fun c : Dev nD => bigSep Finset.univ fun k : Fin 15 => Φ (fwd c k) k :=
  (Pipeline.bigSep_univ_comm Φ).trans ((bigSep_congr fun k _ => bigSep_univ_equiv (turn k) fun c => Φ c k).trans
    (Pipeline.bigSep_univ_comm fun k c => Φ (fwd c k) k))

/-! ## The cells and the duties as minted -/

abbrev osem : Fin 4 × Fin 15 → SemLoc sig := fun ak => .dma (qsem ak.1 ak.2)

theorem csem_inj : Function.Injective csem := by
  intro i j h
  match i, j with
  | none, none => rfl
  | none, some _ => exact absurd h (fun h => by cases h)
  | some _, none => exact absurd h (fun h => by cases h)
  | some ak, some bl =>
    have h' : qsem ak.1 ak.2 = qsem bl.1 bl.2 := SemLoc.dma.inj h
    obtain ⟨h1, h2⟩ := qsem_inj h'
    exact congrArg some (Prod.ext h1 h2)

theorem kcell_inj : Function.Injective (kcell : Dev nD × CI → GSem nD τ sig) := by
  rintro ⟨c, i⟩ ⟨c', j⟩ h
  have h1 : c = c' := congrArg (fun g : GSem nD τ sig => g.1.1) h
  have h2 : i = j := csem_inj (congrArg Prod.snd h)
  rw [h1, h2]
def meshCells : Finset (GSem nD τ sig) := Finset.univ.map ⟨kcell, kcell_inj⟩

/-- A device's own cells' duties: fifteen of its barrier, one of each of its transfer semaphores. -/
abbrev tokOf (x : Dev nD × (Fin 15 ⊕ (Fin 4 × Fin 15))) : GSem nD τ sig × ℕ × Fin 15 := match x.2 with
  | .inl k => (barCell x.1, 0, k)
  | .inr ak => (qCell x.1 ak.1 ak.2, 0, 0)
theorem tokOf_inj : Function.Injective tokOf := by
  rintro ⟨c, i⟩ ⟨c', j⟩ h
  match i, j with
  | .inl k, .inl l =>
    have h1 : c = c' := congrArg (fun x : GSem nD τ sig × ℕ × Fin 15 => x.1.1.1) h
    have h2 : k = l := congrArg (fun x : GSem nD τ sig × ℕ × Fin 15 => x.2.2) h
    rw [h1, h2]
  | .inl _, .inr _ => exact absurd (congrArg (fun x : GSem nD τ sig × ℕ × Fin 15 => x.1.2) h) (fun h => by cases h)
  | .inr _, .inl _ => exact absurd (congrArg (fun x : GSem nD τ sig × ℕ × Fin 15 => x.1.2) h) (fun h => by cases h)
  | .inr ak, .inr bl =>
    have h1 : c = c' := congrArg (fun x : GSem nD τ sig × ℕ × Fin 15 => x.1.1.1) h
    obtain ⟨h2, h3⟩ := qsem_inj (SemLoc.dma.inj (congrArg (fun x : GSem nD τ sig × ℕ × Fin 15 => x.1.2) h))
    rw [h1, show ak = bl from Prod.ext h2 h3]
def meshToks : Finset (GSem nD τ sig × ℕ × Fin 15) := Finset.univ.map ⟨tokOf, tokOf_inj⟩

def u₀ : UU :=
  (initOf (Pipeline.cells cfgs cellOf_inj) (Pipeline.launchToks cfgs cellOf_inj), initOf meshCells meshToks)

/-- The duties of device `c`'s own cells. -/
def toks (c : Dev nD) : sProp 𝕄 :=
  iprop((bigSep Finset.univ fun k : Fin 15 => dutyTok ER (barCell c) 0 k)
    ∗ bigSep Finset.univ fun ak : Fin 4 × Fin 15 => dutyTok ER (qCell c ak.1 ak.2) 0 0)

/-- What the launch deals device `c`. -/
def G (c : Dev nD) : sProp 𝕄 :=
  iprop((bigSep Finset.univ fun i : CI => roundState ER (sched P) (kcell (c, i)) 0)
    ∗ (bigSep Finset.univ fun i : CI => iprop(atPos ER (kcell (c, i)) 0 ∅ 0 ∗ reached ER (kcell (c, i)) 0)) ∗ toks c)

theorem fund_mesh : BI.own (ER (initOf meshCells meshToks)) ⊢ (|==> bigSep Finset.univ (G P) : sProp 𝕄) := by
  have hX (Φ : GSem nD τ sig → sProp 𝕄) : bigSep meshCells Φ = bigSep Finset.univ fun c : Dev nD => bigSep Finset.univ fun i : CI => Φ (kcell (c, i)) := by
    unfold meshCells; rw [bigSep_map, bigSep_univ_prod]; rfl
  have hT : bigSep meshToks (fun x => (dutyTok ER x.1 x.2.1 x.2.2 : sProp 𝕄)) = bigSep Finset.univ fun c : Dev nD => toks c := by
    unfold meshToks; rw [bigSep_map, bigSep_univ_prod]
    exact bigSep_congr fun c _ => by unfold toks; rw [bigSep_univ_sum]; rfl
  iintro HX
  imod (Rounds.fund ER (sched P) meshCells meshToks) $$ HX with ⟨Hst, Hr, Hat, Htok⟩
  imodintro
  ihave Hst' := (Entails.of_eq (hX fun g => roundState ER (sched P) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores at zero -/

theorem unscoped_eq (c : Dev nD) : (unscopedSems0 c : sProp 𝕄) = semVal (barCell c) 0 := by
  unfold unscopedSems0; rw [bigSep_eq_bigSepL_of_eq [SemLoc.reg barS] (by decide) (by decide)]; rfl

/-- The transfer semaphores, array by array. -/
theorem own_eq (c : Dev nD) : (Pipeline.ownSems0 (Ix := Unit) (Name := ℕ) (U := UU) (Lvl := ℕ) (Val := Elt F) (τ := τ) osem c : sProp 𝕄)
    = iprop((bigSep Finset.univ fun k => semVal (qCell c 0 k) 0) ∗ (bigSep Finset.univ fun k => semVal (qCell c 1 k) 0)
      ∗ (bigSep Finset.univ fun k => semVal (qCell c 2 k) 0) ∗ (bigSep Finset.univ fun k => semVal (qCell c 3 k) 0)) := by
  unfold Pipeline.ownSems0
  rw [bigSep_univ_prod, bigSep_univ_eq_bigSepL [(0 : Fin 4), (1 : Fin 4), (2 : Fin 4), (3 : Fin 4)] (by decide) (by decide)]
  rfl

theorem sems_eq (c : Dev nD) :
    iprop(Pipeline.ownSems0 (Ix := Unit) (Name := ℕ) (U := UU) (Lvl := ℕ) (Val := Elt F) (τ := τ) osem c ∗ unscopedSems0 c)
      ⊢ (bigSep Finset.univ fun i : CI => semVal (kcell (c, i)) 0 : sProp 𝕄) := by
  rw [own_eq, unscoped_eq, bs_cells]
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G P c)
      ⊢ |={Set.univ}=> iprop((bigSep Finset.univ fun i : CI => iprop(∃ κ : ℕ, cellInv ER (sched P) κ (kcell (c, i))))
          ∗ (bigSep Finset.univ fun i : CI => iprop(atPos ER (kcell (c, i)) 0 ∅ 0 ∗ reached ER (kcell (c, i)) 0)) ∗ toks c) := by
  unfold G
  iintro ⟨Hos, Hus, Hst, Hat, Htok⟩
  ihave Hv := (sems_eq (F := F) c) $$ [Hos Hus]
  · isplitl [Hos] <;> iassumption
  imod (show iprop((bigSep Finset.univ fun i : CI => semVal (kcell (c, i)) 0) ∗ bigSep Finset.univ fun i : CI => roundState ER (sched P) (kcell (c, i)) 0)
      ⊢ (|={Set.univ}=> bigSep Finset.univ fun i : CI => iprop(∃ κ : ℕ, cellInv ER (sched P) κ (kcell (c, i))) : sProp 𝕄) from by
        rw [← bigSep_sep']
        exact (bigSep_mono fun i _ => (Rounds.body_intro ER (sched P) (kcell (c, i))).trans inv_alloc).trans (bigSep_fupd _ _)) $$ [Hv Hst] with Hinv
  · isplitl [Hv] <;> iassumption
  imodintro
  isplitl [Hinv]; · iexact Hinv
  isplitl [Hat]; · iexact Hat
  iexact Htok

/-! ## Dealing the duties round the mesh -/

/-- The duties device `c` pays: a unit to every other barrier, its sends, and their receipts. -/
def payToks (c : Dev nD) : sProp 𝕄 :=
  iprop((bigSep Finset.univ fun k => dutyTok ER (barCell (fwd c k)) 0 k)
    ∗ (bigSep Finset.univ fun k => dutyTok ER (qCell c 0 k) 0 0) ∗ (bigSep Finset.univ fun k => dutyTok ER (qCell (fwd c k) 1 k) 0 0)
    ∗ (bigSep Finset.univ fun k => dutyTok ER (qCell c 2 k) 0 0) ∗ (bigSep Finset.univ fun k => dutyTok ER (qCell (fwd c k) 3 k) 0 0))
/-- That and its positions at the first round of its own cells. -/
def linear (c : Dev nD) : sProp 𝕄 := iprop((bigSep Finset.univ fun i : CI => atPos ER (kcell (c, i)) 0 ∅ 0) ∗ payToks c)

/-- What the global step makes of it. -/
def G' (c : Dev nD) : sProp 𝕄 := iprop(∃ K, records P K ∗ linear c)

theorem toks_around : (bigSep Finset.univ fun c : Dev nD => (toks c : sProp 𝕄)) ⊢ bigSep Finset.univ fun c : Dev nD => payToks c := by
  have h4 (c : Dev nD) : (toks c : sProp 𝕄) = iprop((bigSep Finset.univ fun k => dutyTok ER (barCell c) 0 k)
      ∗ (bigSep Finset.univ fun k => dutyTok ER (qCell c 0 k) 0 0) ∗ (bigSep Finset.univ fun k => dutyTok ER (qCell c 1 k) 0 0)
      ∗ (bigSep Finset.univ fun k => dutyTok ER (qCell c 2 k) 0 0) ∗ (bigSep Finset.univ fun k => dutyTok ER (qCell c 3 k) 0 0)) := by
    unfold toks
    rw [bigSep_univ_prod, bigSep_univ_eq_bigSepL [(0 : Fin 4), (1 : Fin 4), (2 : Fin 4), (3 : Fin 4)] (by decide) (by decide)]
    rfl
  rw [bigSep_congr (s := Finset.univ) fun (c : Dev nD) _ => h4 c]
  unfold payToks
  simp only [bigSep_sep']
  rw [bs_around (fun c k => (dutyTok ER (barCell c) 0 k : sProp 𝕄)), bs_around (fun c k => (dutyTok ER (qCell c 1 k) 0 0 : sProp 𝕄)),
    bs_around (fun c k => (dutyTok ER (qCell c 3 k) 0 0 : sProp 𝕄))]

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun i : CI => iprop(∃ κ : ℕ, cellInv ER (sched P) κ (kcell (c, i))))
          ∗ (bigSep Finset.univ fun i : CI => iprop(atPos ER (kcell (c, i)) 0 ∅ 0 ∗ reached ER (kcell (c, i)) 0)) ∗ toks c) : sProp 𝕄)
      ⊢ bigSep Finset.univ (G' P) := by
  rw [bigSep_sep', bigSep_sep', ← bigSep_univ_prod (fun ck : Dev nD × CI => iprop(∃ κ : ℕ, cellInv ER (sched P) κ (kcell ck))),
    bigSep_congr (s := Finset.univ) (fun (c : Dev nD) _ => bigSep_sep' Finset.univ (fun i : CI => (atPos ER (kcell (c, i)) 0 ∅ 0 : sProp 𝕄)) (fun i => reached ER (kcell (c, i)) 0)),
    bigSep_sep', ← bigSep_univ_prod (fun ck : Dev nD × CI => (reached ER (kcell ck) 0 : sProp 𝕄))]
  iintro ⟨HI, ⟨Hat, HR⟩, Htok⟩
  ihave HK := (BI.bigSep_exists_pi Finset.univ (fun (ck : Dev nD × CI) (κ : ℕ) => (cellInv ER (sched P) κ (kcell ck) : sProp 𝕄))) $$ HI
  icases HK with ⟨%K, HI⟩
  ihave Htk := (toks_around (F := F)) $$ Htok
  iapply (with_persistent (R := records P K) (Φ := linear) fun c _ => show iprop(records P K ∗ linear c) ⊢ G' P c from by
    unfold G'; iintro H; iexists K; iexact H)
  isplitl [HI HR]
  · unfold records; isplitl [HI] <;> iassumption
  · unfold linear
    rw [bigSep_sep']
    isplitl [Hat] <;> iassumption

/-- The semaphores of all devices put under the rounds at once. -/
theorem glob : (bigSep Finset.univ fun c => iprop(Pipeline.ownSems0 (Ix := Unit) (Name := ℕ) (U := UU) (Lvl := ℕ) (Val := Elt F) (τ := τ) osem c ∗ unscopedSems0 c ∗ G P c) : sProp 𝕄)
    ⊢ |={Set.univ}=> bigSep Finset.univ (G' P) :=
  ((bigSep_mono fun c _ => core_alloc P c).trans (bigSep_fupd _ _)).trans (BI.fupd_mono (regroup P))

/-! ## What all devices together owe a device -/

theorem cred_bar (c : Dev nD) : (bigSep Finset.univ fun _ : Fin 15 => (cred (tallyAt (barCell c) () 1) : sProp 𝕄)) = cred (tallyAt (barCell c) () 15) := by
  rw [← Pipeline.cred_finsetSum]
  refine congrArg cred (funext fun g => Finsupp.ext fun u => ?_)
  rw [Finset.sum_apply, Finsupp.finset_sum_apply, Finset.sum_const, tallyAt_apply, tallyAt_apply]
  split <;> rfl

theorem cred_owed (c : Dev nD) (sm : Fin 15 → SemLoc sig) (n : ℕ) :
    (Pipeline.launchCred (fun d => ∑ k, tallyAt ((fwd d k : Thread nD τ), sm k) () n) c : sProp 𝕄)
      ⊢ bigSep Finset.univ fun k => cred (tallyAt ((c : Thread nD τ), sm k) () n) := by
  rw [Pipeline.launchCred_sum]
  exact bigSep_mono fun k _ => Pipeline.launchCred_tallyAt (sm k) (fun d => fwd d k) (fun d => bwd d k) (fun d => fwd_bwd d k) (fun d => bwd_fwd d k) () n c

theorem creds (c : Dev nD) :
    (Pipeline.launchCred O₀ c : sProp 𝕄) ⊢ iprop((bigSep Finset.univ fun k => cred (tallyAt (qCell c 3 k) () N))
      ∗ (bigSep Finset.univ fun k => cred (tallyAt (qCell c 1 k) () N)) ∗ cred (tallyAt (barCell c) () 15)) := by
  rw [show O₀ = fun d => (owQ 3 d Finset.univ + owQ 1 d Finset.univ) + owBar d Finset.univ from rfl,
    Pipeline.launchCred_add (fun d => owQ 3 d Finset.univ + owQ 1 d Finset.univ), Pipeline.launchCred_add (fun d => owQ 3 d Finset.univ), ← cred_bar]
  iintro ⟨⟨H3, H1⟩, HB⟩
  isplitl [H3]; · iapply (cred_owed c (fun k => .dma (qsem 3 k)) N); iexact H3
  isplitl [H1]; · iapply (cred_owed c (fun k => .dma (qsem 1 k)) N); iexact H1
  iapply (cred_owed c (fun _ => .reg barS) 1); iexact HB

end Cert.Mlp

end
-- ==== Proof.Launch.lean ====
module

public import proofs.«01_k».proof.Proof.Deal
public import Idealize.ShloMosaic.Lib.Pipeline.CollectiveSegs

/-! # The run on sixteen devices

The kernel's one call, launched on every device at once. -/

@[expose] public section

noncomputable section

namespace Cert.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop pointsTo_toks)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The operands as staged -/

/-- Device `c`'s staged operands: its tokens, its columns of the gate and up weights, its rows of the down weights. -/
def xAt (c : Dev nD) : Vec F S768x768 .bf16 := (win0_0.blk (0 : Fin 1)).view.read (Elt F) (m ((c : Thread nD τ).loc main_arg0))
def gAt (c : Dev nD) : Vec F S768x1536 .bf16 := (win0_1.blk (0 : Fin 1)).view.read (Elt F) (m ((c : Thread nD τ).loc main_arg1))
def uAt (c : Dev nD) : Vec F S768x1536 .bf16 := (win0_2.blk (0 : Fin 1)).view.read (Elt F) (m ((c : Thread nD τ).loc main_arg2))
def dAt (c : Dev nD) : Vec F S1536x768 .bf16 := (win0_3.blk (0 : Fin 1)).view.read (Elt F) (m ((c : Thread nD τ).loc main_arg3))

/-- Every device's partial product. -/
def prods (c : Dev nD) : Vec F S768x768 .bf16 := partialOf (xAt m c) (gAt m c) (uAt m c) (dAt m c)

/-! ## The pipeline's data -/

/-- What a device starts from besides its buffers: the records, its duties and positions, its credits, the order of the cells. -/
def start (c : Dev nD) : sProp 𝕄 :=
  iprop(G' (prods m) c ∗ (bigSep Finset.univ fun k => cred (tallyAt (qCell c 3 k) () N))
    ∗ (bigSep Finset.univ fun k => cred (tallyAt (qCell c 1 k) () N)) ∗ cred (tallyAt (barCell c) () 15) ∗ levels)

def scratch (c : Dev nD) : sProp 𝕄 :=
  iprop((∃ f, ((c : Thread nD τ).loc cc0_scratch0) ↦{fullShare} f) ∗ (∃ f, ((c : Thread nD τ).loc cc0_scratch1) ↦{fullShare} f)
    ∗ (∃ f, ((c : Thread nD τ).loc cc0_scratch2) ↦{fullShare} f))

def Φ₀ (c : Dev nD) : sProp 𝕄 := iprop(start m c ∗ scratch c)
def Φ₁ (c : Dev nD) : sProp 𝕄 :=
  iprop(semVal (barCell c) 0
    ∗ ((bigSep Finset.univ fun k => semVal (qCell c 0 k) 0) ∗ (bigSep Finset.univ fun k => semVal (qCell c 1 k) 0)
      ∗ (bigSep Finset.univ fun k => semVal (qCell c 2 k) 0) ∗ (bigSep Finset.univ fun k => semVal (qCell c 3 k) 0))
    ∗ scratch c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xAt m c
    | ⟨1, _⟩ => gAt m c
    | ⟨2, _⟩ => uAt m c
    | ⟨3, _⟩ => dAt m c
    | ⟨4, _⟩ => outOf (prods m)
  Φ t := match t with
    | ⟨0, _⟩ => Φ₀ m c
    | ⟨_ + 1, _⟩ => Φ₁ c
  q _ := fullShare
  owed t := match t with
    | ⟨0, _⟩ => O₀ c
    | ⟨_ + 1, _⟩ => 0

theorem bigSep_W (Φ : Fin cfg0.W → sProp 𝕄) : bigSep Finset.univ Φ = iprop(Φ (0 : Fin 5) ∗ Φ (1 : Fin 5) ∗ Φ (2 : Fin 5) ∗ Φ (3 : Fin 5) ∗ Φ (4 : Fin 5)) := bigSep_W0 Φ

theorem before_x (c : Dev nD) (d) : (dats m ρ 0 c).before (0 : Fin 5) t0_0 d = xAt m c := by unfold Dat.before; rw [if_pos (fetch0_0 t0_0)]; rfl
theorem before_g (c : Dev nD) (d) : (dats m ρ 0 c).before (1 : Fin 5) t0_0 d = gAt m c := by unfold Dat.before; rw [if_pos (fetch0_1 t0_0)]; rfl
theorem before_u (c : Dev nD) (d) : (dats m ρ 0 c).before (2 : Fin 5) t0_0 d = uAt m c := by unfold Dat.before; rw [if_pos (fetch0_2 t0_0)]; rfl
theorem before_d (c : Dev nD) (d) : (dats m ρ 0 c).before (3 : Fin 5) t0_0 d = dAt m c := by unfold Dat.before; rw [if_pos (fetch0_3 t0_0)]; rfl

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body -/

/-- A staging buffer of device `c` holding `X`. -/
abbrev held (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def launchIn (c : Dev nD) : sProp 𝕄 :=
  iprop(Φ₀ m c ∗ (dats m ρ 0 c).owesAt () t0_0.castSucc
    ∗ (∃ d, held c cc0_stg0_0 ((dats m ρ 0 c).before (0 : Fin 5) t0_0 d))
    ∗ (∃ d, held c cc0_stg1_0 ((dats m ρ 0 c).before (1 : Fin 5) t0_0 d))
    ∗ (∃ d, held c cc0_stg2_0 ((dats m ρ 0 c).before (2 : Fin 5) t0_0 d))
    ∗ (∃ d, held c cc0_stg3_0 ((dats m ρ 0 c).before (3 : Fin 5) t0_0 d))
    ∗ (∃ d, held c cc0_stg4_0 ((dats m ρ 0 c).before (4 : Fin 5) t0_0 d)))

def launchOut (c : Dev nD) : sProp 𝕄 :=
  iprop(Φ₁ c ∗ (dats m ρ 0 c).owesAt () t0_0.succ ∗ held c cc0_stg0_0 (xAt m c) ∗ held c cc0_stg1_0 (gAt m c) ∗ held c cc0_stg2_0 (uAt m c)
    ∗ held c cc0_stg3_0 (dAt m c) ∗ held c cc0_stg4_0 (outOf (prods m)))

theorem pre_split (c : Dev nD) :
    launchIn m ρ c ⊢ iprop(∃ K, ∃ o, env (prods m) K ∗ bodyIn c ∗ stages c (xAt m c) (gAt m c) (uAt m c) (dAt m c) o) := by
  unfold launchIn Φ₀ start G' linear payToks scratch
  simp only [before_x, before_g, before_u, before_d]
  rw [bs_cells]
  iintro ⟨⟨⟨⟨%K, Hrec, ⟨HaB, Ha0, Ha1, Ha2, Ha3⟩, HtB, Ht0, Ht1, Ht2, Ht3⟩, Hc3, Hc1, HcB, Hlev⟩, Hscr⟩, HO,
    ⟨%d0, %f0, %h0, Hx⟩, ⟨%d1, %f1, %h1, Hg⟩, ⟨%d2, %f2, %h2, Hu⟩, ⟨%d3, %f3, %h3, Hd⟩, ⟨%d4, %f4, %h4, Ho⟩⟩
  subst h0 h1 h2 h3
  iexists K, f4
  isplitl [Hrec Hlev]
  · unfold env; isplitl [Hrec] <;> iassumption
  isplitr [Hx Hg Hu Hd Ho]
  · unfold bodyIn owesE
    isplitl [HO]
    · unfold Dat.owesAt Pipeline.owesWithin
      icases HO with ⟨%W, -, HO⟩
      iexists W; iexact HO
    isplitl [HtB]; · iexact HtB
    isplitl [Ht0]; · iexact Ht0
    isplitl [Ht1]; · iexact Ht1
    isplitl [Ht2]; · iexact Ht2
    isplitl [Ht3]; · iexact Ht3
    isplitl [HcB]; · iexact HcB
    isplitl [Hc1]; · iexact Hc1
    isplitl [Hc3]; · iexact Hc3
    isplitl [HaB]; · iexact HaB
    isplitl [Ha0]; · iexact Ha0
    isplitl [Ha1]; · iexact Ha1
    isplitl [Ha2]; · iexact Ha2
    isplitl [Ha3]; · iexact Ha3
    iexact Hscr
  · unfold stages
    isplitl [Hx]; · iexact Hx
    isplitl [Hg]; · iexact Hg
    isplitl [Hu]; · iexact Hu
    isplitl [Hd]; · iexact Hd
    iexact Ho

theorem held_of (c : Dev nD) (b : Ref sig .tc) (X : b.ty.Contents (Elt F)) :
    ((((c : Thread nD τ).loc b) ↦{fullShare} X : sProp 𝕄)) ⊢ held c b X := by
  iintro H; iexists X; isplitr; · (ipureintro; rfl)
  iexact H

theorem post_join (c : Dev nD) :
    iprop(bodyOut c ∗ stages c (xAt m c) (gAt m c) (uAt m c) (dAt m c) (outOf (prods m))) ⊢ launchOut m ρ c := by
  unfold bodyOut stages launchOut Φ₁ scratch owesE
  iintro ⟨⟨⟨%W, HO⟩, HzB, Hz0, Hz1, Hz2, Hz3, Hscr⟩, Hx, Hg, Hu, Hd, Ho⟩
  isplitl [HzB Hz0 Hz1 Hz2 Hz3 Hscr]
  · isplitl [HzB]; · iexact HzB
    isplitr [Hscr]
    · isplitl [Hz0]; · iexact Hz0
      isplitl [Hz1]; · iexact Hz1
      isplitl [Hz2] <;> iassumption
    iexact Hscr
  isplitl [HO]
  · unfold Dat.owesAt Pipeline.owesWithin
    iexists W; isplitr; · (ipureintro; exact fun _ _ => Or.inl trivial)
    iexact HO
  isplitl [Hx]; · iapply (held_of c cc0_stg0_0 (xAt m c)); iexact Hx
  isplitl [Hg]; · iapply (held_of c cc0_stg1_0 (gAt m c)); iexact Hg
  isplitl [Hu]; · iapply (held_of c cc0_stg2_0 (uAt m c)); iexact Hu
  isplitl [Hd]; · iapply (held_of c cc0_stg3_0 (dAt m c)); iexact Hd
  iapply (held_of c cc0_stg4_0 (outOf (prods m))); iexact Ho

set_option maxRecDepth 4000 in
/-- The library's body obligation on device `c`. -/
theorem body_obligation (c : Dev nD) : BodyObligation (dats (F := F) m ρ 0 c) (defs₀ (F := F)) 𝒱₀ () Set.univ := fun t => by
  rw [fin_N0 t]
  rw [bigSep_W, bigSep_W]
  simp only [owns_whole_eq]
  show launchIn m ρ c ⊢ wpc c (cc0_body xM (Memref.isWhole_whole _) gM (Memref.isWhole_whole _) uM (Memref.isWhole_whole _) dM (Memref.isWhole_whole _)
    oM (Memref.isWhole_whole _) stM (Memref.isWhole_whole _) rsM (Memref.isWhole_whole _) agM (Memref.isWhole_whole _)
    cc0_scratch3 cc0_scratch4 cc0_scratch5 cc0_scratch6) (fun _ => launchOut m ρ c)
  iintro H
  icases (pre_split m ρ c) $$ H with ⟨%K, %o, #He, Hin, Hst⟩
  iapply (sound_body (prods m) K c (xAt m c) (gAt m c) (uAt m c) (dAt m c) o rfl (fun _ => launchOut m ρ c)) $$ He Hin Hst
  iintro H
  iapply (post_join m ρ c); iexact H

/-! ## The launch -/

theorem ownSemFacts : Pipeline.OwnSemFacts cfg0.spec osem := by decide

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (prods m) c)
      ⊢ |={Set.univ}=> iprop(start m c ∗ emp) := by
  iintro ⟨-, Hlev, Hcr, -, HG⟩
  icases (creds (F := F) c) $$ Hcr with ⟨H3, H1, HB⟩
  imodintro
  unfold start
  isplitl
  · isplitl [HG]; · iexact HG
    isplitl [H3]; · iexact H3
    isplitl [H1]; · iexact H1
    isplitl [HB]; · iexact HB
    unfold levels; iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scratch
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, own_eq, unscoped_eq]
  unfold Φ₁ scratch
  iintro H; iexact H

/-- The pipeline's own waits are allowed whatever the device owes. -/
theorem wait_stage (c : Dev nD) (q : DmaSem sig) (hq : q.val < 5) (O : CellTallies nD τ sig Unit) (hO : O = O₀ c ∨ O = 0) :
    (levAts L lv : sProp 𝕄) ⊢ MayWait (c : Thread nD τ) (.dma q) () O := by
  have h := mayWait_of (F := F) c (.dma q) 0 (lv_stage c q hq)
  unfold levels at h
  rcases hO with rfl | rfl
  · exact h Finset.univ Finset.univ Finset.univ (.inr (by decide)) (.inr (by decide)) (.inr (by decide))
  · have h0 := h ∅ ∅ ∅ (.inl rfl) (.inl rfl) (.inl rfl)
    rw [owQ_empty, owQ_empty, owBar_empty, add_zero, add_zero] at h0
    exact h0

theorem waits (c : Dev nD) : (levAts L lv : sProp 𝕄) ⊢ Pipeline.cellsWaits cfgs (dats m ρ) () 0 c :=
  Pipeline.cellsWaits_intro cfgs (dats m ρ) () 0 c fun w s t =>
    wait_stage c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def Ends : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- At any float values, from any memory with zero counters: every weakly fair execution on the sixteen devices
    terminates, with the operands unchanged, the result at the contents computed and every counter back at zero. -/
theorem run_main : θ_run defs (onTc (τ := τ) (main (F := F))) (s₀ m ρ) (fun r => Ends m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (prods m)) (G' := G' (prods m)) (u₀ := u₀)
    (hu₀ := by
      unfold u₀
      iintro Hu
      ihave H := (ownU_pair _ _) $$ Hu
      icases H with ⟨HP, HX⟩
      imod (fund_mesh (prods m)) $$ HX with HG
      imodintro
      isplitl [HP] <;> iassumption)
    (hglob := glob (prods m))
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The operands' arrays end as they began. -/
theorem kept (c : Dev nD) {r} (h : Ends m ρ r) :
    r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  ⟨(h c (0 : Fin 5)).trans ((dats (F := F) m ρ 0 c).arrAt_in (0 : Fin 5) rfl _), (h c (1 : Fin 5)).trans ((dats (F := F) m ρ 0 c).arrAt_in (1 : Fin 5) rfl _),
    (h c (2 : Fin 5)).trans ((dats (F := F) m ρ 0 c).arrAt_in (2 : Fin 5) rfl _), (h c (3 : Fin 5)).trans ((dats (F := F) m ρ 0 c).arrAt_in (3 : Fin 5) rfl _)⟩

/-- The run, read at the operands and the counters. -/
theorem run_kept : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun _ h => ⟨fun c => kept m ρ c h.1, h.2⟩) (run_main m ρ)

end Cert.Mlp

end
-- ==== Proof.Value.lean ====
module

public import proofs.«01_k».proof.Proof.Contents
public import proofs.«01_k».proof.Proof.Phases
public import Idealize.ShloMosaic.Lib.MatmulPlain
public import Idealize.ShloMosaic.Lib.Pointwise
public import Idealize.ShloMosaic.Lib.Pipeline.Value
public import Idealize.ShloMosaic.Lib.IdealHost

/-! What the kernel computes

Over the extended reals the result is, element by element, the sum over the devices of each
device's gated MLP over its own hidden units. -/

@[expose] public section

noncomputable section

namespace Cert.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop pointsTo_toks)
open Idealize.ShloMosaic.Pipeline (Dat Cfg Window BodyObligation cellOf)

variable {F : FTy → Type} [FloatOps F]

local notation "𝕄" => MT nD τ sig Unit (Elt F) ℕ UU ℕ

open scoped BigOperators

/-! ## The function -/

/-- One hidden unit: the gate times the up projection's swish. -/
def unit (a b : EReal) : EReal := a * (b * Ideal.logistic b)

/-- Element `(r, j)` of a gated MLP with `H` hidden units: tokens `x`, gate weights `g`, up weights `u`, down weights `d`. -/
def gated {R H : ℕ} (x : (⟨2, ![R, 768]⟩ : Shape).Idx → EReal) (g u : (⟨2, ![768, H]⟩ : Shape).Idx → EReal)
    (d : (⟨2, ![H, 768]⟩ : Shape).Idx → EReal) (r : Fin R) (j : Fin 768) : EReal :=
  ∑ h : Fin H, unit (∑ k : Fin 768, x (ValueIdx.ix2 r k) * g (ValueIdx.ix2 k h)) (∑ k : Fin 768, x (ValueIdx.ix2 r k) * u (ValueIdx.ix2 k h)) * d (ValueIdx.ix2 h j)

/-! ## A block of rows -/

/-- What the kernel computes of 192 rows of tokens. -/
def blockRows (xs : FVec F S192x768 .bf16) (g u : FVec F S768x1536 .bf16) (d : FVec F S1536x768 .bf16) : FVec F S192x768 .bf16 :=
  truncf .bf16 (matmul dot_S192x1536_S1536x768_S192x768_1_0_0_1_n_n none
    (truncf .bf16 (mulf (matmul dot_S192x768_S768x1536_S192x1536_1_0_0_1_n_n none xs g (constant S192x1536 .f32 0x00000000#32))
      (mulf (matmul dot_S192x768_S768x1536_S192x1536_1_0_0_1_n_n none xs u (constant S192x1536 .f32 0x00000000#32))
        (logistic (matmul dot_S192x768_S768x1536_S192x1536_1_0_0_1_n_n none xs u (constant S192x1536 .f32 0x00000000#32))))) bitsLt_bf16_f32)
    d (constant S192x768 .f32 0x00000000#32)) bitsLt_bf16_f32

omit [FloatOps F] in
theorem slices (b : Fin 4) : S768x768.Slices ![192 * b.val, 0] S192x768 := by fin_cases b <;> decide

/-- The four stored blocks are this one computation at their rows. -/
theorem blkPay_eq (x : Vec F S768x768 .bf16) (g u : Vec F S768x1536 .bf16) (d : Vec F S1536x768 .bf16) (b : Fin 4) :
    blkPay x g u d b = blockRows (extractStridedSlice S192x768 ![192 * b.val, 0] x (slices b)) g u d := by
  match b with
  | 0 => simp only [blkPay, k0_pay5, k0_pay1, k0_pay2, k0_pay3, k0_pay4, Idealize.ShloMosaic.shapeCast_self]; rfl
  | 1 => simp only [blkPay, k0_pay6, k0_pay1, k0_pay2, k0_pay3, k0_pay4, Idealize.ShloMosaic.shapeCast_self]; rfl
  | 2 => simp only [blkPay, k0_pay7, k0_pay8, k0_pay1, k0_pay2, k0_pay3, k0_pay4, Idealize.ShloMosaic.shapeCast_self]; rfl
  | 3 => simp only [blkPay, k0_pay9, k0_pay10, k0_pay11, k0_pay1, k0_pay2, k0_pay3, k0_pay4, Idealize.ShloMosaic.shapeCast_self]; rfl

theorem zero_bits (s : Shape) (i : s.Idx) : (constant s .f32 0x00000000#32 : FVec Ideal s .f32) i = 0 := Ideal.ofBits_zero_f32

/-- A product of 192 rows by the gate or up weights, entry by entry. -/
theorem hidden_apply (xs : FVec Ideal S192x768 .bf16) (g : FVec Ideal S768x1536 .bf16) (r : Fin 192) (h : Fin 1536) :
    (matmul dot_S192x768_S768x1536_S192x1536_1_0_0_1_n_n none xs g (constant S192x1536 .f32 0x00000000#32) : FVec Ideal S192x1536 .f32) (ValueIdx.ix2 r h)
      = ∑ k : Fin 768, xs (ValueIdx.ix2 r k) * g (ValueIdx.ix2 k h) :=
  (Ideal.matmul_plain_apply none xs g _ r h).trans (by rw [zero_bits, zero_add])

theorem blockRows_apply (xs : FVec Ideal S192x768 .bf16) (g u : FVec Ideal S768x1536 .bf16) (d : FVec Ideal S1536x768 .bf16)
    (r : Fin 192) (j : Fin 768) : blockRows xs g u d (ValueIdx.ix2 r j) = gated xs g u d r j := by
  refine (Ideal.matmul_plain_apply none _ d _ r j).trans ?_
  rw [zero_bits, zero_add]
  refine Finset.sum_congr rfl fun h _ => congrArg (· * d (ValueIdx.ix2 h j)) ?_
  exact congrArg₂ unit (hidden_apply xs g r h) (hidden_apply xs u r h)

/-! ## A device's partial product -/

/-- A row of a block of tokens is that row of the tokens. -/
theorem slice_apply (x : FVec Ideal S768x768 .bf16) (b : Fin 4) (r : Fin 192) (k : Fin 768) :
    extractStridedSlice S192x768 ![192 * b.val, 0] x (slices b) (ValueIdx.ix2 r k)
      = x (ValueIdx.ix2 (⟨192 * b.val + r.val, by omega⟩ : Fin 768) k) :=
  congrArg x (ext2 rfl rfl (Nat.zero_add _))

theorem blkPay_apply (x : FVec Ideal S768x768 .bf16) (g u : FVec Ideal S768x1536 .bf16) (d : FVec Ideal S1536x768 .bf16)
    (b : Fin 4) (r : Fin 192) (j : Fin 768) :
    blkPay (F := Ideal) x g u d b (ValueIdx.ix2 r j) = gated x g u d ⟨192 * b.val + r.val, by omega⟩ j := by
  rw [blkPay_eq, blockRows_apply]
  unfold gated
  simp only [slice_apply]

theorem gated_congr (x : FVec Ideal S768x768 .bf16) (g u : FVec Ideal S768x1536 .bf16) (d : FVec Ideal S1536x768 .bf16)
    {r r' : Fin 768} (h : r.val = r'.val) (j : Fin 768) : gated x g u d r j = gated x g u d r' j := by rw [Fin.ext h]

theorem partialOf_apply (x : FVec Ideal S768x768 .bf16) (g u : FVec Ideal S768x1536 .bf16) (d : FVec Ideal S1536x768 .bf16)
    (i : S768x768.Idx) : partialOf (F := Ideal) x g u d i = gated x g u d (i 0) (i 1) := by
  have hi := row_lt i
  unfold partialOf
  have h : ij192 ((i 0).val % 192) (Nat.mod_lt _ (by decide)) (i 1)
      = (ValueIdx.ix2 (⟨(i 0).val % 192, Nat.mod_lt _ (by decide)⟩ : Fin 192) (i 1 : Fin 768) : S192x768.Idx) := ext2 rfl rfl rfl
  refine (congrArg (blkPay (F := Ideal) x g u d ⟨(i 0).val / 192, by omega⟩) h).trans ?_
  refine (blkPay_apply x g u d _ _ _).trans (gated_congr x g u d ?_ _)
  show 192 * ((i 0).val / 192) + (i 0).val % 192 = (i 0).val
  omega

/-! ## The reduction -/

/-- A sum over the devices, from any one of them on: its own term and those of the fifteen before it. -/
theorem sum_bwd (d : Dev nD) (f : Dev nD → EReal) : ∑ c, f c = f d + ∑ k, f (bwd d k) := by
  rw [← Finset.add_sum_erase _ _ (Finset.mem_univ d), erase_fwd, Finset.sum_map]
  refine congrArg (f d + ·) ?_
  rw [← Equiv.sum_comp mirror]
  exact Finset.sum_congr rfl fun k _ => congrArg f (fwd_opp d k)

theorem redOf_apply (P : Dev nD → FVec Ideal S768x768 .bf16) (d : Dev nD) (j : S48x768.Idx) :
    redOf (F := Ideal) P d j = ∑ c, chunkOf (F := Ideal) d (P c) j := by
  rw [sum_bwd d]
  unfold redOf k0_pay13 k0_pay12
  simp only [shapeCast_self]
  refine congrArg (chunkOf (F := Ideal) d (P d) j + ·) ?_
  refine (Ideal.reduceAdd_r3_a0 reduces_S15x48x768_S48x768 _ j).trans ?_
  exact Finset.sum_congr rfl fun k _ => congrArg (chunkOf (F := Ideal) d (P (bwd d k))) (ext2 rfl rfl rfl)

/-- The result is the sum of the devices' partial products. -/
theorem outOf_apply (P : Dev nD → FVec Ideal S768x768 .bf16) (i : S768x768.Idx) :
    outOf (F := Ideal) P i = ∑ c, P c i := by
  have hi := row_lt i
  show redOf (F := Ideal) P ⟨(i 0).val / 48, _⟩ (ij48 ((i 0).val % 48) _ (i 1)) = _
  rw [redOf_apply]
  exact Finset.sum_congr rfl fun c _ => congrArg (P c) (ext2 rfl (by show 48 * ((i 0).val / 48) + (i 0).val % 48 = (i 0).val; omega) rfl)

end Cert.Mlp

end
-- ==== Proof.Bridge.lean ====
module

public import proofs.«01_k».proof.Proof.Launch
public import proofs.«01_k».proof.Proof.Value
public import proofs.«01_k».proof.Proof.Gen.ReferenceIdeal
public import proofs.«01_k».proof.ReferenceIdeal
public import Idealize.ShloMosaic.Lib.StackMember
public import Idealize.ShloMosaic.Lib.Layout

/-! The result and the reference's

The result array of every device ends at the sum of the devices' gated MLPs; the reference's is one
gated MLP over all the hidden units, which the devices hold in blocks. -/

@[expose] public section

noncomputable section

namespace Cert.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop pointsTo_toks)
open Idealize.ShloMosaic.Pipeline (Dat Cfg Window BodyObligation cellOf)

variable {F : FTy → Type} [FloatOps F]

local notation "𝕄" => MT nD τ sig Unit (Elt F) ℕ UU ℕ

open scoped BigOperators

variable (m : (ℓ : Loc nD τ sig) → Buf (Elt F) ℓ) (ρ : Dev nD → PrngReg)

/-! ## The staged operands are the operands, the result array is the result -/

theorem xAt_eq (c : Dev nD) : xAt m c = m ((c : Thread nD τ).loc main_arg0) := funext fun j =>
  congrArg (m ((c : Thread nD τ).loc main_arg0)) (funext fun a => Fin.ext (win0_0.rect_emb_val_of_index_zero (0 : Fin 1) a rfl j))
theorem gAt_eq (c : Dev nD) : gAt m c = m ((c : Thread nD τ).loc main_arg1) := funext fun j =>
  congrArg (m ((c : Thread nD τ).loc main_arg1)) (funext fun a => Fin.ext (win0_1.rect_emb_val_of_index_zero (0 : Fin 1) a rfl j))
theorem uAt_eq (c : Dev nD) : uAt m c = m ((c : Thread nD τ).loc main_arg2) := funext fun j =>
  congrArg (m ((c : Thread nD τ).loc main_arg2)) (funext fun a => Fin.ext (win0_2.rect_emb_val_of_index_zero (0 : Fin 1) a rfl j))
theorem dAt_eq (c : Dev nD) : dAt m c = m ((c : Thread nD τ).loc main_arg3) := funext fun j =>
  congrArg (m ((c : Thread nD τ).loc main_arg3)) (funext fun a => Fin.ext (win0_3.rect_emb_val_of_index_zero (0 : Fin 1) a rfl j))

theorem emb_out (j : S768x768.Idx) : (win0_4.blk (0 : Fin 1)).view.emb j = j :=
  funext fun a => Fin.ext (win0_4.rect_emb_val_of_index_zero (0 : Fin 1) a rfl j)

theorem finalA_out (c : Dev nD) : finalA m ρ c (4 : Fin 5) = outOf (prods m) := funext fun i => by
  have h := (dats (F := F) m ρ 0 c).arrAt_emb_eq_flushed (4 : Fin 5) (fun t t' _ _ h => absurd (Subsingleton.elim (α := Fin 1) t t') h)
    t0_0 (flush0_4 t0_0) i
  rw [show ((cfg0.win (4 : Fin 5)).blk t0_0).view.emb i = i from emb_out i] at h
  exact h

/-- The run, read at the result and the operands. -/
theorem run_value : θ_run defs (onTc (τ := τ) (main (F := F))) ⟨m, fun _ => 0, ρ⟩ (fun r => ∀ c : Dev nD,
      r.2.mem ((c.tc : Thread nD τ).loc main_v1) = outOf (prods m)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h.1 c (4 : Fin 5)).trans (finalA_out m ρ c), kept m ρ c h.1⟩) (run_main m ρ)

/-! ## The reference's function -/

/-- An exponential is not negative. -/
theorem exp_nonneg (x : EReal) : 0 ≤ Ideal.exp x := by
  induction x with
  | bot => exact le_rfl
  | top => exact le_top
  | coe r => exact EReal.coe_nonneg.mpr (Real.exp_pos r).le

/-- `b / (1 + exp (-b))` is `b` times its logistic: the divisor is at least one. -/
theorem swish_eq (b : EReal) : Ideal.div b (1 + Ideal.exp (-b)) = b * Ideal.logistic b := by
  unfold Ideal.logistic
  refine (Ideal.mul_one_div ?_).symm
  have h := Ideal.one_add_sum_ne_zero (Finset.univ : Finset Unit) (fun _ => Ideal.exp (-b)) fun _ _ => exp_nonneg _
  simpa using h

section Reference

variable (X : FVec Ideal ⟨2, ![768, 768]⟩ .bf16) (G U : FVec Ideal ⟨2, ![768, 24576]⟩ .bf16) (D : FVec Ideal ⟨2, ![24576, 768]⟩ .bf16)

/-- The reference's result, as its operations compose. -/
def refOut : FVec Ideal ⟨2, ![768, 768]⟩ .f32 :=
  Host.dotGeneral Cert.ReferenceIdeal.dot_S768x24576_S24576x768_S768x768_1_0_0_1_n_n none
    (mulf (Host.dotGeneral Cert.ReferenceIdeal.dot_S768x768_S768x24576_S768x24576_1_0_0_1_n_n none
        (extf .f32 X bitsLt_bf16_f32) (extf .f32 G bitsLt_bf16_f32))
      (Host.divf (Host.dotGeneral Cert.ReferenceIdeal.dot_S768x768_S768x24576_S768x24576_1_0_0_1_n_n none
          (extf .f32 X bitsLt_bf16_f32) (extf .f32 U bitsLt_bf16_f32))
        (addf (broadcastInDim Cert.ReferenceIdeal.S768x24576 ![] Cert.ReferenceIdeal.Facts₀.bcast_S_S768x24576
            (constant Cert.ReferenceIdeal.S_ .f32 0x3F800000#32))
          (Host.exp (Host.negf (Host.dotGeneral Cert.ReferenceIdeal.dot_S768x768_S768x24576_S768x24576_1_0_0_1_n_n none
            (extf .f32 X bitsLt_bf16_f32) (extf .f32 U bitsLt_bf16_f32)))))))
    (extf .f32 D bitsLt_bf16_f32)

theorem refOut_apply (r j : Fin 768) : refOut X G U D (ValueIdx.ix2 r j) = gated X G U D r j := by
  refine (StackMember.dotGeneral_plain_apply none _ _ r j).trans (Finset.sum_congr rfl fun h _ => congrArg (· * D (ValueIdx.ix2 h j)) ?_)
  have hG := StackMember.dotGeneral_plain_apply none (extf .f32 X bitsLt_bf16_f32) (extf .f32 G bitsLt_bf16_f32) r h
  have hU := StackMember.dotGeneral_plain_apply none (extf .f32 X bitsLt_bf16_f32) (extf .f32 U bitsLt_bf16_f32) r h
  refine (congrArg₂ (· * ·) hG ((?_ : _ = Ideal.div _ (1 + Ideal.exp (-_))).trans (congrArg (fun b => Ideal.div b (1 + Ideal.exp (-b))) hU))).trans ?_
  · show Ideal.div _ (Ideal.ofBits .f32 0x3F800000#32 + Ideal.exp (-_)) = _
    rw [Ideal.ofBits_one_f32]
    rfl
  · show _ * Ideal.div _ _ = _
    rw [swish_eq]; rfl

/-! ## The hidden units dealt out over the devices -/

/-- A sum over all hidden units is the sum over the devices of the sum over each one's own. -/
theorem sum_units (f : Fin 24576 → EReal) :
    ∑ h, f h = ∑ c : Fin 16, ∑ h : Fin 1536, f ⟨c.val * 1536 + h.val, by omega⟩ := by
  rw [← Fintype.sum_prod_type', ← Equiv.sum_comp (finProdFinEquiv : Fin 16 × Fin 1536 ≃ Fin (16 * 1536)) f]
  exact Finset.sum_congr rfl fun p _ => congrArg f (Fin.ext (by show p.2.val + 1536 * p.1.val = p.1.val * 1536 + p.2.val; omega))

/-- The gated MLP over all hidden units is the sum of those over the devices' blocks of them. -/
theorem gated_blocks (r j : Fin 768) : gated X G U D r j
    = ∑ c : Fin 16, gated X (Layout.block ⟨2, ![768, 1536]⟩ ⟨2, ![768, 24576]⟩ 1 16 c G)
        (Layout.block ⟨2, ![768, 1536]⟩ ⟨2, ![768, 24576]⟩ 1 16 c U) (Layout.block ⟨2, ![1536, 768]⟩ ⟨2, ![24576, 768]⟩ 0 16 c D) r j := by
  unfold gated
  rw [sum_units]
  refine Finset.sum_congr rfl fun c _ => Finset.sum_congr rfl fun h _ => ?_
  have hcol : ∀ (W : FVec Ideal ⟨2, ![768, 24576]⟩ .bf16) (k : Fin 768), Layout.block ⟨2, ![768, 1536]⟩ ⟨2, ![768, 24576]⟩ 1 16 c W (by decide) (ValueIdx.ix2 k h)
      = W (ValueIdx.ix2 k (⟨c.val * 1536 + h.val, by omega⟩ : Fin 24576)) := fun W k => congrArg W (ext2 rfl rfl rfl)
  have hrow : Layout.block ⟨2, ![1536, 768]⟩ ⟨2, ![24576, 768]⟩ 0 16 c D (by decide) (ValueIdx.ix2 h j)
      = D (ValueIdx.ix2 (⟨c.val * 1536 + h.val, by omega⟩ : Fin 24576) j) := congrArg D (ext2 rfl rfl rfl)
  simp only [hcol, hrow]

end Reference

/-- From operands dealt out as the mesh holds them, the kernel's result is the reference's. -/
theorem out_eq (m : (ℓ : Loc nD τ sig) → Buf (Elt Ideal) ℓ) (X : FVec Ideal ⟨2, ![768, 768]⟩ .bf16) (G U : FVec Ideal ⟨2, ![768, 24576]⟩ .bf16)
    (D : FVec Ideal ⟨2, ![24576, 768]⟩ .bf16)
    (h : ∀ c : Dev nD, m ((c : Thread nD τ).loc main_arg0) = X
      ∧ m ((c : Thread nD τ).loc main_arg1) = Layout.block ⟨2, ![768, 1536]⟩ ⟨2, ![768, 24576]⟩ 1 16 c G
      ∧ m ((c : Thread nD τ).loc main_arg2) = Layout.block ⟨2, ![768, 1536]⟩ ⟨2, ![768, 24576]⟩ 1 16 c U
      ∧ m ((c : Thread nD τ).loc main_arg3) = Layout.block ⟨2, ![1536, 768]⟩ ⟨2, ![24576, 768]⟩ 0 16 c D) :
    outOf (prods m) = refOut X G U D := funext fun i => by
  rw [outOf_apply]
  refine Eq.trans ?_ (((congrArg (refOut X G U D) (ValueIdx.eq_ix2 i)).trans (refOut_apply X G U D _ _)).trans (gated_blocks X G U D _ _)).symm
  refine Finset.sum_congr rfl fun c _ => ?_
  show prods m c i = _
  unfold prods
  rw [xAt_eq, gAt_eq, uAt_eq, dAt_eq, (h c).1, (h c).2.1, (h c).2.2.1, (h c).2.2.2]
  exact partialOf_apply _ _ _ _ i

end Cert.Mlp

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Bridge
public import Idealize.ShloMosaic.Adequacy
public import Idealize.ShloMosaic.Init

@[expose] public section

noncomputable section

namespace Cert.Proof

open Idealize.ShloMosaic Idealize.SL.Sem

/-- The two programs have the same body tables: there is one label, and at it both run the same
    text. -/
theorem defs₀_eq : Cert.Kernel.defs₀ (F := Bits) = Cert.KernelIdeal.defs₀ (F := Bits) := by
  unfold Cert.Kernel.defs₀ Cert.KernelIdeal.defs₀
  refine congrArg Defs.onTc ?_
  funext l x
  match l, x with
  | ⟨0, _⟩, (t, s) => rfl

/-- So their tables with the pipeline's labels agree too. -/
theorem defs_eq : Cert.Kernel.defs (F := Bits) = Cert.KernelIdeal.defs (F := Bits) :=
  congrArg (Pipeline.defs (Cert.KernelIdeal.pcfgs (F := Bits))) defs₀_eq

/-- The kernel over words: the run of the ideal program's text, read over words, is its run. -/
theorem frame_kernel : Cert.quiescent_Kernel := by
  intro m ρ _
  rw [defs_eq]
  exact Cert.Mlp.run_kept (F := Bits) m ρ

/-- The same over the extended reals. -/
theorem frame_ideal : Cert.quiescent_KernelIdeal := fun m ρ _ => Cert.Mlp.run_kept (F := Ideal) m ρ

/-- The reference: it has no semaphores. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Every device's result is the whole of the reference's. -/
theorem algebraic : Cert.algebraic_KernelIdeal_ReferenceIdeal := fun m ρ m' ρ' _ h =>
  ⟨Cert.Mlp.refOut _ _ _ _,
    (θ_run Cert.KernelIdeal.defs _ _).mono (fun _ hr c => ⟨(hr c).1.trans (Cert.Mlp.out_eq m _ _ _ _ h), (hr c).2⟩)
      (Cert.Mlp.run_value (F := Ideal) m ρ),
    (θ_run Cert.ReferenceIdeal.defs _ _).mono (fun _ hr => hr 0) (Cert.ReferenceIdeal.Value.run (F := Ideal) m' ρ')⟩

theorem claim : Cert.Claim := ⟨Cert.Kernel.Gen.facts, Cert.KernelIdeal.Gen.facts, Cert.ReferenceIdeal.Gen.facts,
  frame_kernel, frame_ideal, frame_reference, trivial, algebraic⟩

end Cert.Proof

end
